-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .f32) (main_arg1 : FVec F S512x4096 .f32) : IVec S256x512 1 × IVec S512x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  (main_v2, main_v5)
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)

variable [Facts]

def fn {F : FTy → Type} [FloatOps F] (main_arg0 : FVec F S256x512 .f32) (main_arg1 : FVec F S512x8192 .f32) : IVec S256x512 1 × IVec S512x8192 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x8192 .f32 := Host.absf main_arg1
  let main_cst_0 : FVec F S_ .f32 := constant S_ .f32 0x7F800000#32
  let main_v4 : FVec F S512x8192 .f32 := broadcastInDim S512x8192 ![] bcast_S_S512x8192 main_cst_0
  let main_v5 : IVec S512x8192 1 := cmpf .olt main_v3 main_v4
  (main_v2, main_v5)
-- ==== Kernel.lean ====
abbrev S256x512 : Shape := ⟨2, ![256, 512]⟩
abbrev S512x4096 : Shape := ⟨2, ![512, 4096]⟩
abbrev S256x8192 : Shape := ⟨2, ![256, 8192]⟩
abbrev S8x256x512 : Shape := ⟨3, ![8, 256, 512]⟩
abbrev S256x1 : Shape := ⟨2, ![256, 1]⟩
abbrev S8 : Shape := ⟨1, ![8]⟩
abbrev S_ : Shape := ⟨0, ![]⟩
abbrev S512x512 : Shape := ⟨2, ![512, 512]⟩
abbrev S256 : Shape := ⟨1, ![256]⟩
abbrev S1x256x512 : Shape := ⟨3, ![1, 256, 512]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | .local _ .vmem, ⟨3, _⟩ => ⟨S8x256x512, .bf16⟩
  | .local _ .vmem, ⟨4, _⟩ => ⟨S8x256x512, .bf16⟩
  | .local _ .vmem, ⟨5, _⟩ => ⟨S256x1, .f32⟩
  | .local _ .vmem, ⟨6, _⟩ => ⟨S256x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_6 : BitVec 32 := 16#32
  let v14 : BitVec 32 := Scalar.muli v9 c16_i32_6
  let v15 : BitVec 32 := Scalar.addi c0_i32 v14
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v16 : BitVec 32 := Scalar.muli v5 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.muli v8 c1_i32_8
  let v19 : BitVec 32 := Scalar.addi v17 v18
  v19.toNat
def k0_off1 (d0 : Dev nD) (c0_i32_15 : BitVec 32) : Fin 2 → Nat :=
  let c0_16 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v10 : BitVec 32 := Scalar.muli v2 c4096_i32
  let v30 : BitVec 32 := Scalar.addi v10 c0_i32_15
  let v31 : Index := Scalar.indexCast v30
  ![0, v31.toNat]
def k0_dev2 (d0 : Dev nD) : Nat :=
  let c0_i32_25 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_24 : BitVec 32 := 16#32
  let v37 : BitVec 32 := Scalar.muli v9 c16_i32_24
  let v38 : BitVec 32 := Scalar.addi c0_i32_25 v37
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v39 : BitVec 32 := Scalar.muli v5 c4_i32_26
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v41 : BitVec 32 := Scalar.muli v8 c1_i32_27
  let v42 : BitVec 32 := Scalar.addi v40 v41
  v42.toNat
def k0_dev3 (d0 : Dev nD) : Nat :=
  let c0_i32_45 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_44 : BitVec 32 := 16#32
  let v67 : BitVec 32 := Scalar.muli v9 c16_i32_44
  let v68 : BitVec 32 := Scalar.addi c0_i32_45 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v69 : BitVec 32 := Scalar.muli v5 c4_i32_46
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v71 : BitVec 32 := Scalar.muli v8 c1_i32_47
  let v72 : BitVec 32 := Scalar.addi v70 v71
  v72.toNat
def k0_dev4 (d0 : Dev nD) : Nat :=
  let c0_i32_65 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_64 : BitVec 32 := 16#32
  let v97 : BitVec 32 := Scalar.muli v9 c16_i32_64
  let v98 : BitVec 32 := Scalar.addi c0_i32_65 v97
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v99 : BitVec 32 := Scalar.muli v5 c4_i32_66
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v101 : BitVec 32 := Scalar.muli v8 c1_i32_67
  let v102 : BitVec 32 := Scalar.addi v100 v101
  v102.toNat
def k0_dev5 (d0 : Dev nD) : Nat :=
  let c0_i32_84 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_83 : BitVec 32 := 16#32
  let v127 : BitVec 32 := Scalar.muli v9 c16_i32_83
  let v128 : BitVec 32 := Scalar.addi c0_i32_84 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v129 : BitVec 32 := Scalar.muli v5 c4_i32_85
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v131 : BitVec 32 := Scalar.muli v8 c1_i32_86
  let v132 : BitVec 32 := Scalar.addi v130 v131
  v132.toNat
def k0_dev6 (d0 : Dev nD) : Nat :=
  let c0_i32_104 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_103 : BitVec 32 := 16#32
  let v157 : BitVec 32 := Scalar.muli v9 c16_i32_103
  let v158 : BitVec 32 := Scalar.addi c0_i32_104 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v159 : BitVec 32 := Scalar.muli v5 c4_i32_105
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v161 : BitVec 32 := Scalar.muli v8 c1_i32_106
  let v162 : BitVec 32 := Scalar.addi v160 v161
  v162.toNat
def k0_dev7 (d0 : Dev nD) : Nat :=
  let c0_i32_123 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_122 : BitVec 32 := 16#32
  let v187 : BitVec 32 := Scalar.muli v9 c16_i32_122
  let v188 : BitVec 32 := Scalar.addi c0_i32_123 v187
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_124 : BitVec 32 := 4#32
  let v189 : BitVec 32 := Scalar.muli v5 c4_i32_124
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v191 : BitVec 32 := Scalar.muli v8 c1_i32_125
  let v192 : BitVec 32 := Scalar.addi v190 v191
  v192.toNat
def k0_dev8 (d0 : Dev nD) : Nat :=
  let c0_i32_142 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_141 : BitVec 32 := 16#32
  let v217 : BitVec 32 := Scalar.muli v9 c16_i32_141
  let v218 : BitVec 32 := Scalar.addi c0_i32_142 v217
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_143 : BitVec 32 := 4#32
  let v219 : BitVec 32 := Scalar.muli v5 c4_i32_143
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v221 : BitVec 32 := Scalar.muli v8 c1_i32_144
  let v222 : BitVec 32 := Scalar.addi v220 v221
  v222.toNat
def k0_dev9 (d0 : Dev nD) : Nat :=
  let c0_i32_161 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_160 : BitVec 32 := 16#32
  let v247 : BitVec 32 := Scalar.muli v9 c16_i32_160
  let v248 : BitVec 32 := Scalar.addi c0_i32_161 v247
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_162 : BitVec 32 := 4#32
  let v249 : BitVec 32 := Scalar.muli v5 c4_i32_162
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v251 : BitVec 32 := Scalar.muli v8 c1_i32_163
  let v252 : BitVec 32 := Scalar.addi v250 v251
  v252.toNat
def k0_dev10 (d0 : Dev nD) : Nat :=
  let c0_i32_171 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_170 : BitVec 32 := 16#32
  let v264 : BitVec 32 := Scalar.muli v9 c16_i32_170
  let v265 : BitVec 32 := Scalar.addi c0_i32_171 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_172 : BitVec 32 := 4#32
  let v266 : BitVec 32 := Scalar.muli v5 c4_i32_172
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v268 : BitVec 32 := Scalar.muli v8 c1_i32_173
  let v269 : BitVec 32 := Scalar.addi v267 v268
  v269.toNat
def k0_off2 (d0 : Dev nD) (c0_i32_189 : BitVec 32) : Fin 2 → Nat :=
  let c0_190 : Index := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c4096_i32_4 : BitVec 32 := 4096#32
  let v12 : BitVec 32 := Scalar.muli v11 c4096_i32_4
  let v285 : BitVec 32 := Scalar.addi v12 c0_i32_189
  let v286 : Index := Scalar.indexCast v285
  ![0, v286.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Protocol.lean ====
/- The exchange between the two halves of the mesh: who talks to whom, what every semaphore announces, and what
   each buffer holds when it is announced. Stated over any float values, so that both readings of the kernel use it. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.Writes
public import Idealize.ShloMosaic.Lib.Memref

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two round algebras side by side: the pipeline's staging cells and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The machine at launch: memory `m`, all counters at zero. -/
def s₀ : MemSt nD τ sig (Elt F) := ⟨m, fun _ => 0, ρ⟩

/-! ## Partners -/

/-- The device with the same `y` and `z` on the other side of the `x` axis. -/
def peer (c : Dev nD) : Dev nD := ⟨(c.val + 16) % 32, Nat.mod_lt _ (by decide)⟩

theorem peer_peer (c : Dev nD) : peer (peer c) = c := by revert c; decide

/-- The closed form in which every computed device id arrives names the partner. -/
theorem peer_val (c : Dev nD) : (4 * ((c.val / 4) % 4) + c.val % 4 + 16) - 16 * (c.val / 16) = (peer c).val := by
  revert c; decide

theorem dev_eq {n : ℕ} (c : Dev nD) (hl : n < 32) (hn : n = (4 * ((c.val / 4) % 4) + c.val % 4 + 16) - 16 * (c.val / 16)) :
    (⟨n, hl⟩ : Dev nD) = peer c := Fin.ext (hn.trans (peer_val c))

/-- Partnership as a permutation of the devices. -/
def swap : Dev nD ≃ Dev nD := ⟨peer, peer, peer_peer, peer_peer⟩

/-! ## Buffers -/

abbrev xM : Memref sig .tc .vmem S256x512 .f32 := Memref.whole cc0_stg0_0
abbrev wM : Memref sig .tc .vmem S512x4096 .f32 := Memref.whole cc0_stg1_0
abbrev oM : Memref sig .tc .vmem S256x8192 .f32 := Memref.whole cc0_stg2_0
/-- Outgoing chunks. -/
abbrev sM : Memref sig .tc .vmem S8x256x512 .bf16 := Memref.whole cc0_scratch0
/-- Incoming chunks. -/
abbrev rM : Memref sig .tc .vmem S8x256x512 .bf16 := Memref.whole cc0_scratch1
/-- The outgoing row sums. -/
abbrev tM : Memref sig .tc .vmem S256x1 .f32 := Memref.whole cc0_scratch2
/-- The incoming row sums. -/
abbrev uM : Memref sig .tc .vmem S256x1 .f32 := Memref.whole cc0_scratch3

theorem slot_inb (i : Fin 8) : ∀ a, (![i.val, 0, 0] : Fin 3 → ℕ) a + S1x256x512.size a ≤ S8x256x512.size a := by
  revert i; decide

/-- Slot `i` of a chunk buffer. -/
abbrev slotR (i : Fin 8) : Rect S8x256x512 := Rect.unit (s := S8x256x512) ![i.val, 0, 0] S1x256x512.size (slot_inb i)
abbrev slotM (M : Memref sig .tc .vmem S8x256x512 .bf16) (i : Fin 8) : Memref sig .tc .vmem S1x256x512 .bf16 :=
  M.slice (slotR i) (fun _ => rfl)
/-- The slot without its leading axis, as a transfer names it. -/
abbrev flatM (M : Memref sig .tc .vmem S8x256x512 .bf16) (i : Fin 8) : Memref sig .tc .vmem S256x512 .bf16 :=
  (slotM M i).squeeze S256x512 squeezes_S1x256x512_S256x512

theorem col_inb (j : Fin 16) : ∀ a, (![0, 512 * j.val] : Fin 2 → ℕ) a + S256x512.size a ≤ S256x8192.size a := by
  revert j; decide

/-- The result's columns in sixteen blocks of 512. -/
abbrev colR (j : Fin 16) : Rect S256x8192 := Rect.unit (s := S256x8192) ![0, 512 * j.val] S256x512.size (col_inb j)

theorem wcol_inb (i : Fin 8) : ∀ a, (![0, 512 * i.val] : Fin 2 → ℕ) a + S512x512.size a ≤ S512x4096.size a := by
  revert i; decide

/-- The weight block's columns in eight chunks of 512. -/
abbrev wcolR (i : Fin 8) : Rect S512x4096 := Rect.unit (s := S512x4096) ![0, 512 * i.val] S512x512.size (wcol_inb i)

/-- The column block of the result that chunk `i` of device `c` belongs to. -/
def own (c : Dev nD) (i : Fin 8) : Fin 16 := ⟨8 * (c.val / 16) + i.val, by have := c.isLt; have : c.val < 32 := this; omega⟩
/-- The device on `c`'s side of the exchange that computes block `j`: `c` or its partner. -/
def side (c : Dev nD) (j : Fin 16) : Dev nD := if j.val / 8 = c.val / 16 then c else peer c
/-- Which of that device's chunks it is. -/
def chunkNo (j : Fin 16) : Fin 8 := ⟨j.val % 8, Nat.mod_lt _ (by decide)⟩

theorem own_peer_val (c : Dev nD) (i : Fin 8) : (512 * i.val + 4096) - 4096 * (c.val / 16) = 512 * (own (peer c) i).val := by
  revert c i; decide
theorem own_val (c : Dev nD) (i : Fin 8) : 4096 * (c.val / 16) + 512 * i.val = 512 * (own c i).val := by
  revert c i; decide
theorem side_own (c : Dev nD) (i : Fin 8) : side c (own c i) = c := by revert c i; decide
theorem side_own_peer (c : Dev nD) (i : Fin 8) : side c (own (peer c) i) = peer c := by revert c i; decide
theorem chunkNo_own (c : Dev nD) (i : Fin 8) : chunkNo (own c i) = i := by revert c i; decide
theorem own_cases (c : Dev nD) (j : Fin 16) : j = own c (chunkNo j) ∨ j = own (peer c) (chunkNo j) := by
  revert c j; decide

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Columns `512 i …` of the device's weight block. -/
def wcol (c : Dev nD) (i : Fin 8) : Vec F S512x512 .f32 := (wM.access (wcolR i)).read (Elt F) (wstg m ρ c)

/-- The exponentials of chunk `i`, -/
def expE (c : Dev nD) (i : Fin 8) : FVec F S256x512 .f32 := k0_pay1 (xstg m ρ c) (wcol m ρ c i)
/-- as they are sent, -/
def sentB (c : Dev nD) (i : Fin 8) : FVec F S1x256x512 .bf16 := k0_pay3 (expE m ρ c i)
/-- and as the receiver widens them. -/
def backE (c : Dev nD) (i : Fin 8) : FVec F S256x512 .f32 := k0_pay28 (sentB m ρ c i)

/-- The running row sums after `n` chunks, -/
def sums (c : Dev nD) : ℕ → FVec F S256x1 .f32
  | 0 => broadcast S256x1 (Scalar.ofBits .f32 0x00000000#32)
  | n + 1 => k0_pay5 (sums c n) (xstg m ρ c) (wcol m ρ c (Fin.ofNat 8 n))

/-- and the total as it is sent. -/
def total (c : Dev nD) : FVec F S256x1 .f32 := k0_pay27 (sums m ρ c 8)

/-- What block `j` of device `c`'s result holds before the scaling. -/
def blockE (c : Dev nD) (j : Fin 16) : FVec F S256x512 .f32 :=
  if j.val / 8 = c.val / 16 then expE m ρ c (chunkNo j) else backE m ρ (peer c) (chunkNo j)

theorem blockE_own (c : Dev nD) (i : Fin 8) : blockE m ρ c (own c i) = expE m ρ c i := by
  unfold blockE; rw [if_pos (by revert c i; decide), chunkNo_own]
theorem blockE_peer (c : Dev nD) (i : Fin 8) : blockE m ρ c (own (peer c) i) = backE m ρ (peer c) i := by
  unfold blockE; rw [if_neg (by revert c i; decide), chunkNo_own]

/-- The column block a result index lies in, and its place there. -/
def colBlock (y : S256x8192.Idx) : Fin 16 := ⟨(y 1).val / 512, by have : (y 1).val < 8192 := (y 1).isLt; omega⟩
def inBlock (y : S256x8192.Idx) : S256x512.Idx := fun
  | 0 => ⟨(y 0).val, (y 0).isLt⟩
  | 1 => ⟨(y 1).val % 512, Nat.mod_lt _ (by decide)⟩

theorem inBlock_emb (y : S256x8192.Idx) : (colR (colBlock y)).emb (inBlock y) = y := by
  funext a; apply Fin.ext
  fin_cases a
  · show 0 + 1 * (y 0).val = (y 0).val; omega
  · show 512 * ((y 1).val / 512) + 1 * ((y 1).val % 512) = (y 1).val; omega

/-- The unscaled result. -/
def unscaled (c : Dev nD) : Vec F S256x8192 .f32 := fun y => blockE m ρ c (colBlock y) (inBlock y)
/-- The result. -/
def outAt (c : Dev nD) : (cc0_stg2_0 : Ref sig .tc).ty.Contents (Elt F) :=
  k0_pay36 (sums m ρ c 8) (unscaled m ρ c) (total m ρ (peer c))

/-- `f` holds the right exponentials at every block of `J`. -/
def Filled (c : Dev nD) (J : Fin 16 → Prop) (f : (cc0_stg2_0 : Ref sig .tc).ty.Contents (Elt F)) : Prop :=
  ∀ j, J j → (oM.access (colR j)).read (Elt F) f = blockE m ρ c j

theorem colR_disjoint {j j' : Fin 16} (h : j ≠ j') : Disjoint (colR j).set (colR j').set := by
  refine Rect.unit_disjoint 1 ?_
  have : j.val ≠ j'.val := fun e => h (Fin.ext e)
  show 512 * j.val + 512 ≤ 512 * j'.val ∨ 512 * j'.val + 512 ≤ 512 * j.val
  omega

/-- Writing block `j` fills it and leaves the others filled. -/
theorem Filled.write {c : Dev nD} {J J' : Fin 16 → Prop} {f} (h : Filled m ρ c J f) (j : Fin 16) (w : S256x512.Idx → Elt F .f32)
    (hw : w = blockE m ρ c j) (hJ : ∀ k, J' k → k = j ∨ J k) :
    Filled m ρ c J' ((oM.access (colR j)).write (Elt F) f w Finset.univ) := by
  intro k hk
  by_cases e : k = j
  · subst e; rw [View.read_write_univ, hw]
  · rw [← h k ((hJ k hk).resolve_left e)]
    refine View.read_slice_write_slice_of_disjoint (v := oM.view) (colR k) (colR j) f w Finset.univ ?_
    rw [View.setOn_univ]
    exact View.disjoint_slice (colR_disjoint e)

theorem Filled.eq {c : Dev nD} {f} (h : Filled m ρ c (fun _ => True) f) : f = unscaled m ρ c := by
  funext y
  have := congrFun (h (colBlock y) trivial) (inBlock y)
  unfold unscaled
  rw [← this]
  show f y = f ((colR (colBlock y)).emb (inBlock y))
  rw [inBlock_emb]

/-! ## Slots -/

theorem slotR_disjoint (i j : Fin 8) (h : i ≠ j) : Disjoint (slotR i).set (slotR j).set := by
  refine Rect.unit_disjoint 0 ?_
  have : i.val ≠ j.val := fun e => h (Fin.ext e)
  show i.val + 1 ≤ j.val ∨ j.val + 1 ≤ i.val
  omega

theorem slotR_cover : (Finset.univ : Finset (Fin 8)).biUnion (fun i => (slotR i).set) = Finset.univ := by
  refine Finset.eq_univ_of_forall fun y => Finset.mem_biUnion.mpr ⟨y 0, Finset.mem_univ _, Rect.mem_set_unit.mpr fun a => ?_⟩
  fin_cases a
  · exact ⟨le_rfl, Nat.lt_succ_self _⟩
  · exact ⟨Nat.zero_le _, (Nat.zero_add _).symm ▸ (y 1).isLt⟩
  · exact ⟨Nat.zero_le _, (Nat.zero_add _).symm ▸ (y 2).isLt⟩

/-- Slot `i` of chunk buffer `M`, on device `c`, reading `X`; -/
def slotIs (M : Memref sig .tc .vmem S8x256x512 .bf16) (c : Dev nD) (i : Fin 8) (X : S1x256x512.Idx → Elt F .bf16) : sProp 𝕄 :=
  owns (c : Thread nD τ) (slotM M i) fullShare X
/-- reading anything. -/
def slotAny (M : Memref sig .tc .vmem S8x256x512 .bf16) (c : Dev nD) (i : Fin 8) : sProp 𝕄 := iprop(∃ X, slotIs M c i X)
/-- The same for a buffer of row sums. -/
def statIs (M : Memref sig .tc .vmem S256x1 .f32) (c : Dev nD) (X : S256x1.Idx → Elt F .f32) : sProp 𝕄 :=
  owns (c : Thread nD τ) M fullShare X
def statAny (M : Memref sig .tc .vmem S256x1 .f32) (c : Dev nD) : sProp 𝕄 := iprop(∃ X, statIs M c X)

omit [FloatOps F] in
instance slotIs_storable (M) (c : Dev nD) (i) (X) : BI.Storable (upEmb : UEmb _ 𝕄) (slotIs (F := F) M c i X) := by unfold slotIs; infer_instance
omit [FloatOps F] in
instance slotAny_storable (M) (c : Dev nD) (i) : BI.Storable (upEmb : UEmb _ 𝕄) (slotAny (F := F) M c i) := by unfold slotAny; infer_instance
omit [FloatOps F] in
instance statIs_storable (M) (c : Dev nD) (X) : BI.Storable (upEmb : UEmb _ 𝕄) (statIs (F := F) M c X) := by unfold statIs; infer_instance
omit [FloatOps F] in
instance statAny_storable (M) (c : Dev nD) : BI.Storable (upEmb : UEmb _ 𝕄) (statAny (F := F) M c) := by unfold statAny; infer_instance

/-! ## Cells -/

/-- What travels: eight chunks and one column of row sums. -/
abbrev Item : Type := Fin 8 ⊕ Unit
/-- A transfer's two ends: the issuer's (left), the receiver's (right). -/
abbrev End : Type := Item ⊕ Item

/-- The semaphore of each end. -/
def dsem : End → DmaSem sig
  | .inl (.inl i) => ⟨3 + i.val, by have := i.isLt; show 3 + i.val < 21; omega⟩
  | .inl (.inr _) => ⟨19, by decide⟩
  | .inr (.inl i) => ⟨11 + i.val, by have := i.isLt; show 11 + i.val < 21; omega⟩
  | .inr (.inr _) => ⟨20, by decide⟩

/-- The end a semaphore belongs to. -/
def endOf (q : DmaSem sig) : End :=
  if q.val < 11 then .inl (.inl (Fin.ofNat 8 (q.val - 3)))
  else if q.val < 19 then .inr (.inl (Fin.ofNat 8 (q.val - 11)))
  else if q.val = 19 then .inl (.inr ()) else .inr (.inr ())

theorem endOf_dsem (k : End) : endOf (dsem k) = k := by revert k; decide
theorem dsem_ge (k : End) : 3 ≤ (dsem k).val := by revert k; decide

abbrev osem (k : End) : SemLoc sig := .dma (dsem k)

abbrev barS : Sem sig := (SemArray.scalar (sig.barrier 0 rfl) : Sems sig S_).sem
abbrev barCell (c : Dev nD) : GSem nD τ sig := ((c : Thread nD τ), .reg barS)
abbrev dCell (c : Dev nD) (k : End) : GSem nD τ sig := ((c : Thread nD τ), osem k)
abbrev sendCell (c : Dev nD) (i : Item) : GSem nD τ sig := dCell c (.inl i)
abbrev recvCell (c : Dev nD) (i : Item) : GSem nD τ sig := dCell c (.inr i)

/-- All of a device's cells. -/
def kcell (ck : Dev nD × (Unit ⊕ End)) : GSem nD τ sig :=
  match ck.2 with
  | .inl _ => barCell ck.1
  | .inr k => dCell ck.1 k

/-- A chunk's credit, and the row sums'. -/
abbrev N : ℕ := (flatM rM 0).view.dmaCredit
abbrev Ns : ℕ := (uM : Memref sig .tc .vmem S256x1 .f32).view.dmaCredit
theorem N_pos : 0 < N := View.dmaCredit_pos _ (by decide)
theorem Ns_pos : 0 < Ns := View.dmaCredit_pos _ (by decide)

def amt : Item → ℕ
  | .inl _ => N
  | .inr _ => Ns
def endItem : End → Item
  | .inl i => i
  | .inr i => i

theorem amt_pos (i : Item) : 0 < amt i := by rcases i with i | i; exacts [N_pos, Ns_pos]

/-! ## The schedule -/

/-- The barrier of `c`, signalled by the partner, hands over the partner's landing buffers. -/
def barPay (c : Dev nD) : sProp 𝕄 := iprop((bigSep Finset.univ fun i => slotAny rM (peer c) i) ∗ statAny uM (peer c))

/-- A departure hands back the buffer it left from; an arrival hands over the landed contents. -/
def endPay (c : Dev nD) : End → sProp 𝕄
  | .inl (.inl i) => slotAny sM c i
  | .inl (.inr _) => statAny tM c
  | .inr (.inl i) => slotIs rM c i (sentB m ρ (peer c) i)
  | .inr (.inr _) => statIs uM c (total m ρ (peer c))

def ours : SemLoc sig → Prop
  | .reg s => s = barS
  | .dma q => 3 ≤ q.val
instance : DecidablePred ours := fun g => by cases g <;> unfold ours <;> infer_instance

def sched : Rounds.Schedule (GSem nD τ sig) Unit 𝕄 where
  duties g r := if r = 0 ∧ g.1.2 = .tc ∧ ours g.2 then {()} else ∅
  unitless _ := False
  amount g _ _ := match g.2 with
    | .reg _ => 1
    | .dma q => amt (endItem (endOf q))
  payload g _ _ := match g.2 with
    | .reg _ => barPay g.1.1
    | .dma q => endPay m ρ g.1.1 (endOf q)
  amount_pos g _ _ _ := by
    rcases g with ⟨t, s | q⟩
    · exact Nat.one_pos
    · exact amt_pos _

instance endPay_storable (c : Dev nD) (k : End) : BI.Storable (upEmb : UEmb _ 𝕄) (endPay m ρ c k) := by
  rcases k with (i | i) | (i | i) <;> unfold endPay <;> infer_instance

omit [FloatOps F] in
instance barPay_storable (c : Dev nD) : BI.Storable (upEmb : UEmb _ 𝕄) (barPay (F := F) c) := by unfold barPay; infer_instance

instance sched_payload_storable (g : GSem nD τ sig) (r : ℕ) (d : Unit) : BI.Storable (upEmb : UEmb _ 𝕄) ((sched m ρ).payload g r d) := by
  rcases g with ⟨t, s | q⟩
  · exact barPay_storable t.1
  · exact endPay_storable m ρ t.1 (endOf q)

section Sched
variable (c : Dev nD) (k : End)

theorem duties_bar : (sched m ρ).duties (barCell c) 0 = {()} := by
  dsimp only [sched]; exact if_pos ⟨rfl, rfl, (rfl : barS = barS)⟩
theorem duties_end : (sched m ρ).duties (dCell c k) 0 = {()} := if_pos ⟨rfl, rfl, dsem_ge k⟩
theorem duties_later (g : GSem nD τ sig) : ∀ r, 1 ≤ r → (sched m ρ).duties g r = ∅ :=
  fun r hr => if_neg fun h => by omega

theorem amount_bar (u : Unit) : (sched m ρ).amount (barCell c) 0 u = 1 := rfl
theorem amount_end (u : Unit) : (sched m ρ).amount (dCell c k) 0 u = amt (endItem k) := by
  show amt (endItem (endOf (dsem k))) = _; rw [endOf_dsem]

theorem expect_bar : (sched m ρ).expect (barCell c) 0 = 1 := by
  unfold Schedule.expect Schedule.amountOf; rw [duties_bar, Finset.sum_singleton, amount_bar]
theorem expect_end : (sched m ρ).expect (dCell c k) 0 = amt (endItem k) := by
  unfold Schedule.expect Schedule.amountOf; rw [duties_end, Finset.sum_singleton, amount_end]

theorem payload_bar (u : Unit) : (sched m ρ).payload (barCell c) 0 u = barPay c := rfl
theorem payload_end (u : Unit) : (sched m ρ).payload (dCell c k) 0 u = endPay m ρ c k := by
  show endPay m ρ c (endOf (dsem k)) = _; rw [endOf_dsem]

theorem rest_bar : bigSep ((sched m ρ).duties (barCell c) 0 \ ∅) (fun u => (sched m ρ).payload (barCell c) 0 u) = barPay c := by
  rw [Finset.sdiff_empty, duties_bar, bigSep_singleton, payload_bar]
theorem rest_end : bigSep ((sched m ρ).duties (dCell c k) 0 \ ∅) (fun u => (sched m ρ).payload (dCell c k) 0 u) = endPay m ρ c k := by
  rw [Finset.sdiff_empty, duties_end, bigSep_singleton, payload_end]

end Sched

/-! ## Debts and levels -/

/-- The debts still open after `n` of the nine transfers, the row sums counted last. -/
def itemNo : Item → ℕ
  | .inl i => i.val
  | .inr _ => 8
def debt (c : Dev nD) (n : ℕ) : CellTallies nD τ sig Unit :=
  ∑ k : Item, if n ≤ itemNo k then tallyAt (recvCell (peer c) k) () (amt k) else 0
/-- At launch the partner's barrier is owed its signal besides. -/
def O₀ (c : Dev nD) : CellTallies nD τ sig Unit := debt c 0 + tallyAt (barCell (peer c)) () 1

theorem itemNo_inj {k k' : Item} (h : itemNo k = itemNo k') : k = k' := by revert k k'; decide

theorem debt_step (c : Dev nD) (k : Item) :
    debt c (itemNo k) = debt c (itemNo k + 1) + tallyAt (recvCell (peer c) k) () (amt k) := by
  have h (j : Item) : (if itemNo k ≤ itemNo j then tallyAt (recvCell (peer c) j) () (amt j) else 0 : CellTallies nD τ sig Unit)
      = (if itemNo k + 1 ≤ itemNo j then tallyAt (recvCell (peer c) j) () (amt j) else 0)
        + if j = k then tallyAt (recvCell (peer c) j) () (amt j) else 0 := by
    by_cases e : j = k
    · subst e; rw [if_pos le_rfl, if_neg (Nat.not_succ_le_self _), if_pos rfl, zero_add]
    · have : itemNo j ≠ itemNo k := fun h => e (itemNo_inj h)
      rw [if_neg e, add_zero]
      exact if_congr ⟨fun h => by omega, fun h => by omega⟩ rfl rfl
  unfold debt
  rw [Finset.sum_congr rfl fun j _ => h j, Finset.sum_add_distrib, Finset.sum_ite_eq' Finset.univ k, if_pos (Finset.mem_univ _)]

theorem debt_done (c : Dev nD) : debt c 9 = 0 :=
  Finset.sum_eq_zero fun k _ => if_neg (by revert k; decide)

theorem debt_pos {c : Dev nD} {n : ℕ} {g : GSem nD τ sig} {u : Unit} (h : 0 < debt c n g u) : ∃ k, g = recvCell (peer c) k := by
  unfold debt at h
  rw [Finset.sum_apply, Finsupp.finset_sum_apply] at h
  obtain ⟨k, -, hk⟩ := Finset.exists_ne_zero_of_sum_ne_zero (Nat.pos_iff_ne_zero.mp h)
  by_contra hn
  refine hk ?_
  split
  · rw [tallyAt_apply, if_neg fun e => hn ⟨k, e.1⟩]
  · rfl

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply, tallyAt_apply] at h
  by_cases e : g = barCell (peer c) ∧ u = ()
  · exact .inr e.1
  · rw [if_neg e, Nat.add_zero] at h; exact .inl (debt_pos h)

def L (g : GSem nD τ sig) : Finset Unit := if g.1.2 = .tc then {()} else ∅
/-- Staging and departures lowest, then the barrier, then arrivals. -/
def lvl : SemLoc sig → ℕ
  | .reg _ => 1
  | .dma q => if 3 ≤ q.val ∧ (endOf q).isRight then 2 else 0
def lv (g : GSem nD τ sig) (_ : Unit) : ℕ := lvl g.2
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Item) (u : Unit) : lv (recvCell c k) u = 2 := by
  show lvl (osem (.inr k)) = 2; revert k; decide

omit [FloatOps F] in
/-- The staging cells may be waited on whatever is owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; exact (if_neg (by omega) : lvl (.dma q) = 0).le)
      (fun g u hg => by
        rcases O₀_pos hg with ⟨k, rfl⟩ | rfl
        · rw [lv_recv]; decide
        · exact Nat.one_pos)
  · rw [MayWait_zero]; iintro -; iempintro

omit [FloatOps F] in
/-- The barrier may be waited on while only arrivals are owed. -/
theorem mayWait_bar (c : Dev nD) : (levAts L lv : sProp 𝕄) ⊢ MayWait (c : Thread nD τ) (.reg barS) () (debt c 0) :=
  MayOwe.of_cut (L := L) (lev := lv) 1 (fun p hp => by rw [Finset.mem_singleton.mp hp, L_tc]; exact Finset.mem_singleton_self _)
    (fun g u hg => by obtain ⟨k, rfl⟩ := debt_pos hg; exact Finset.mem_singleton_self _)
    (fun p hp => by rw [Finset.mem_singleton.mp hp]; exact le_rfl)
    (fun g u hg => by obtain ⟨k, rfl⟩ := debt_pos hg; rw [lv_recv]; decide)

end Cert.Exchange

end
-- ==== Proof.Steps.lean ====
/- The steps of the exchange, each once for every chunk: sending a chunk, receiving one, waiting for one end of a
   transfer, sending the row sums. -/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Persistent records -/

/-- Every cell's invariant, under the names `K`, and that every cell is in its first round. -/
def records (K : Dev nD × (Unit ⊕ End) → ℕ) : sProp 𝕄 :=
  iprop((bigSep Finset.univ fun ck => cellInv ER (sched m ρ) (K ck) (kcell ck)) ∗ bigSep Finset.univ fun ck => reached ER (kcell ck) 0)
instance records_persistent (K : Dev nD × (Unit ⊕ End) → ℕ) : BI.Persistent (records m ρ K) := by unfold records; infer_instance

variable (K : Dev nD × (Unit ⊕ End) → ℕ)

theorem records_inv (ck : Dev nD × (Unit ⊕ End)) : records m ρ K ⊢ cellInv ER (sched m ρ) (K ck) (kcell ck) := by
  unfold records; iintro ⟨#H, -⟩
  iapply (show (bigSep Finset.univ fun ck => (cellInv ER (sched m ρ) (K ck) (kcell ck) : sProp 𝕄)) ⊢ cellInv ER (sched m ρ) (K ck) (kcell ck) from
    bigSep_elim (Finset.mem_univ ck))
  iexact H
theorem records_reached (ck : Dev nD × (Unit ⊕ End)) : records m ρ K ⊢ reached ER (kcell ck) 0 := by
  unfold records; iintro ⟨-, #H⟩
  iapply (show (bigSep Finset.univ fun ck => (reached ER (kcell ck) 0 : sProp 𝕄)) ⊢ reached ER (kcell ck) 0 from bigSep_elim (Finset.mem_univ ck))
  iexact H

/-! ## Eight things done in order -/

/-- The first `n` of eight have become `Ψ`, the others are still `Φ`. -/
def phase (n : ℕ) (Φ Ψ : Fin 8 → sProp 𝕄) : sProp 𝕄 := bigSep Finset.univ fun i : Fin 8 => if i.val < n then Ψ i else Φ i

omit [FloatOps F] in
theorem phase_start (Φ Ψ : Fin 8 → sProp 𝕄) : phase 0 Φ Ψ = bigSep Finset.univ Φ := bigSep_congr fun i _ => if_neg (Nat.not_lt_zero _)
omit [FloatOps F] in
theorem phase_end (Φ Ψ : Fin 8 → sProp 𝕄) : phase 8 Φ Ψ = bigSep Finset.univ Ψ := bigSep_congr fun i _ => if_pos i.isLt
omit [FloatOps F] in
theorem phase_step (i : Fin 8) (Φ Ψ : Fin 8 → sProp 𝕄) : phase i.val Φ Ψ ⊢ iprop(Φ i ∗ (Ψ i -∗ phase (i.val + 1) Φ Ψ)) := by
  have h := BI.bigSep_univ_update (Φ := fun j : Fin 8 => if j.val < i.val then Ψ j else Φ j)
    (Ψ := fun j : Fin 8 => if j.val < i.val + 1 then Ψ j else Φ j) i
    (fun j hj => if_congr ⟨fun h => by have : j.val ≠ i.val := fun e => hj (Fin.ext e); omega, fun h => by omega⟩ rfl rfl)
  rw [if_neg (Nat.lt_irrefl _), if_pos (Nat.lt_succ_self _)] at h
  exact h

/-! ## Views of a slot -/

omit [FloatOps F] in
theorem flat_pts (M : Memref sig .tc .vmem S8x256x512 .bf16) (c : Dev nD) (i : Fin 8) (f : M.view.ty.Contents (Elt F)) :
    ((flatM M i).view.loc (c : Thread nD τ) ↦[(flatM M i).view.set]{fullShare} f : sProp 𝕄)
      = ((slotM M i).view.loc (c : Thread nD τ) ↦[(slotM M i).view.set]{fullShare} f) :=
  congrArg (fun S : Finset (Idx ((slotM M i).view.loc (c : Thread nD τ))) => ((slotM M i).view.loc (c : Thread nD τ) ↦[S]{fullShare} f : sProp 𝕄))
    (View.set_reshape (v := (slotM M i).view) _)

omit [FloatOps F] in
theorem slotAny_intro (M : Memref sig .tc .vmem S8x256x512 .bf16) (c : Dev nD) (i : Fin 8) (f : M.view.ty.Contents (Elt F)) :
    ((slotM M i).view.loc (c : Thread nD τ) ↦[(slotM M i).view.set]{fullShare} f) ⊢ (slotAny M c i : sProp 𝕄) := by
  unfold slotAny slotIs; iintro H
  iexists ((slotM M i).view.read (Elt F) f)
  iapply (owns_intro (c : Thread nD τ) (slotM M i) fullShare f); iexact H

omit [FloatOps F] in
theorem slotIs_any (M : Memref sig .tc .vmem S8x256x512 .bf16) (c : Dev nD) (i : Fin 8) (X) : (slotIs M c i X : sProp 𝕄) ⊢ slotAny M c i := by
  unfold slotAny; iintro H; iexists X; iexact H

omit [FloatOps F] in
/-- What a transfer between flattened slots lands is what the source slot reads. -/
theorem flat_landed (M M' : Memref sig .tc .vmem S8x256x512 .bf16) (i : Fin 8) (fd : M'.view.ty.Contents (Elt F)) (fs : M.view.ty.Contents (Elt F)) :
    (slotM M' i).view.read (Elt F) ((flatM M' i).view.write (Elt F) fd ((flatM M i).view.read (Elt F) fs) Finset.univ)
      = (slotM M i).view.read (Elt F) fs := by
  have h := View.write_reshape_univ (Val := Elt F) (v := (slotM M' i).view) squeezes_S1x256x512_S256x512.numel_eq fd ((flatM M i).view.read (Elt F) fs)
  refine (congrArg ((slotM M' i).view.read (Elt F)) h).trans ?_
  rw [View.read_write_univ]
  funext x
  show (slotM M i).view.read (Elt F) fs (Shape.reshapeEquiv _ ((Shape.reshapeEquiv _).symm x)) = _
  rw [Equiv.apply_symm_apply]

/-! ## Waiting for one end of a transfer -/

/-- Whatever the core has waited for so far, it owes `O`. -/
def owing (c : Dev nD) (O : CellTallies nD τ sig Unit) : sProp 𝕄 := iprop(∃ W, owes (c : Thread nD τ) O W)

/-- What is needed to wait for end `k` on `c`, -/
def pending (c : Dev nD) (k : End) : sProp 𝕄 := iprop(atPos ER (dCell c k) 0 ∅ 0 ∗ cred (tallyAt (dCell c k) () (amt (endItem k))))
/-- and what the wait leaves: the counter at zero and the payload. -/
def settled (c : Dev nD) (k : End) : sProp 𝕄 := iprop(semVal (dCell c k) 0 ∗ endPay m ρ c k)

theorem wp_end {α : Type} {Q : α → sProp 𝕄} (c : Dev nD) (k : End) {q : DmaSem sig} (hq : q = dsem k) {sp sp' : Space} {s s' : Shape} {e e' : EltTy}
    {src : Memref sig .tc sp' s' e'} {dst : Memref sig .tc sp s e} {hsrc : src.view.WordExact} {hdst : dst.view.WordExact}
    (ha : dst.view.dmaCredit = amt (endItem k)) {kt : PUnit → Prog (TpuEff nD τ sig (Elt F) Λ₀ .tc) α} :
    iprop(records m ρ K ∗ pending c k ∗ owing c 0)
      ⊢ iprop(((settled m ρ c k ∗ owing c 0) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold pending owing settled
  rw [← ha]
  iintro ⟨#HR, ⟨Hat, Hc⟩, ⟨%W, HO⟩⟩ Hk
  ihave #HI := (records_inv m ρ K (c, .inr k)) $$ HR
  iapply (Rounds.wp_wait_rest_token 𝒱₀ ER (sched m ρ) (c : Thread nD τ) none (κ := K (c, .inr k))
      (wpE_waitDma2_eq 𝒱₀ (c : Thread nD τ) none Set.univ) (Set.mem_univ _) () (O := 0) (W := W) (R := 0) (m := 0) (T := ∅)
      (by rw [Nat.zero_add, expect_end, ha])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_end m ρ c k)) $$ Hpay
  imod (Rounds.cell_close ER (sched m ρ) (Set.mem_univ (K (c, .inr k))) (fun h => h) (R := 0 + 1) (duties_later m ρ (dCell c k))) $$ [Hat] with Hz
  · isplitr; · iexact HI
    iexact Hat
  iapply Hk
  isplitl [Hz Hp]
  · isplitl [Hz] <;> iassumption
  iexists _; iexact HO

/-! ## The result buffer -/

def outPts (c : Dev nD) (f : (cc0_stg2_0 : Ref sig .tc).ty.Contents (Elt F)) : sProp 𝕄 := ((c : Thread nD τ).loc cc0_stg2_0) ↦{fullShare} f
/-- The result buffer with the blocks of `J` filled. -/
def outSt (c : Dev nD) (J : Fin 16 → Prop) : sProp 𝕄 := iprop(∃ f, ⌜Filled m ρ c J f⌝ ∗ outPts c f)

/-- Reading a block and then overwriting it with what belongs there. -/
theorem wp_fill {α : Type} {Q : α → sProp 𝕄} (c : Dev nD) (j : Fin 16) (J J' : Fin 16 → Prop) (hJ : ∀ k, J' k → k = j ∨ J k)
    {hl : oM.view.LoadsAt (colR j).toLoadRect} {w : S256x512.Idx → Elt F .f32} (hw : w = blockE m ρ c j)
    {hx : (oM.access (colR j)).Stores Finset.univ} {hm} {k : PUnit → Prog (TpuEff nD τ sig (Elt F) Λ₀ .tc) α} :
    outSt m ρ c J
      ⊢ iprop((outSt m ρ c J' -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM (colR j).toLoadRect hl) fun _ => .op (.store oM (colR j) w Finset.univ hx hm) k) Q) := by
  unfold outSt outPts
  iintro ⟨%f, %hf, Ho⟩ Hk
  iapply (wp_load 𝒱₀ (c : Thread nD τ) none Set.univ (m := oM) (Finset.subset_univ _)) $$ Ho; iintro Ho
  iapply (wp_store 𝒱₀ (c : Thread nD τ) none Set.univ (m := oM) (r := colR j) (Mk := Finset.univ) (Finset.subset_univ _)) $$ Ho; iintro Ho
  iapply Hk
  iexists _
  isplitr
  · ipureintro; exact hf.write m ρ j w hw hJ
  iexact Ho

/-! ## Sending -/

def xPts (c : Dev nD) : sProp 𝕄 := ((c : Thread nD τ).loc cc0_stg0_0) ↦{fullShare} xstg m ρ c
def wPts (c : Dev nD) : sProp 𝕄 := ((c : Thread nD τ).loc cc0_stg1_0) ↦{fullShare} wstg m ρ c

/-- The rights to make a transfer: the duties at its two ends. -/
def toks (c : Dev nD) (k : Item) : sProp 𝕄 := iprop(dutyTok ER (sendCell c k) 0 () ∗ dutyTok ER (recvCell (peer c) k) 0 ())

/-- A transfer of item `k` to the partner: both buffers go, the wait for the departure comes. -/
theorem wp_transfer {α : Type} {Q : α → sProp 𝕄} (c : Dev nD) (k : Item) {s : Shape} {e : EltTy} {src dst : Memref sig .tc .vmem s e}
    {qs qr : DmaSem sig} (hqs : qs = dsem (.inl k)) (hqr : qr = dsem (.inr k)) {n : Dev nD} (hn : n = peer c)
    {hsc : (dst : Memref sig (Dev.tc n : Thread nD τ).2.kind .vmem s e).view.ref.isScScratch = false}
    {hsrc : src.view.WordExact} {hdst : dst.view.WordExact}
    {hsem : DmaTarget.Typed .vmem (.dma qr) (.remote (Dev.tc n : Thread nD τ) dst (.dma qs) hsc)}
    (ha : dst.view.dmaCredit = amt k) (fs : Buf (Elt F) (src.view.loc (c : Thread nD τ))) (fd : Buf (Elt F) (dst.view.loc (peer c : Thread nD τ)))
    (h₁ : (src.view.loc (c : Thread nD τ) ↦[src.view.set]{fullShare} fs) ⊢ endPay m ρ c (.inl k))
    (h₂ : (dst.view.loc (peer c : Thread nD τ) ↦[dst.view.set]{fullShare} dst.view.write (Elt F) fd (src.view.read (Elt F) fs) Finset.univ)
      ⊢ endPay m ρ (peer c) (.inr k))
    {kt : PUnit → Prog (TpuEff nD τ sig (Elt F) Λ₀ .tc) α} :
    iprop(records m ρ K ∗ (src.view.loc (c : Thread nD τ) ↦[src.view.set]{fullShare} fs) ∗ (dst.view.loc (peer c : Thread nD τ) ↦[dst.view.set]{fullShare} fd)
        ∗ toks c k ∗ owing c (debt c (itemNo k)))
      ⊢ iprop(((cred (tallyAt (sendCell c k) () (amt k)) ∗ owing c (debt c (itemNo k + 1)))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kt) Q) := by
  subst hqs hqr hn
  unfold owing toks
  iintro ⟨#HR, Hs, Hd, ⟨HtS, HtR⟩, ⟨%W, HO⟩⟩ Hk
  iapply (Rounds.wp_send_pointsTo 𝒱₀ ER (sched m ρ) (c : Thread nD τ) none (κ₁ := K (c, .inr (.inl k))) (κ₂ := K (peer c, .inr (.inr k)))
    (r₁ := 0) (r₂ := 0) (d₁ := ()) (d₂ := ()) (fd := fd)
    (by rw [duties_end]; exact Finset.mem_singleton_self _) (by rw [duties_end]; exact Finset.mem_singleton_self _)
    () () (amt k) (show dst.view.amount (.dma _) = amt k from ha) (amount_end m ρ c (.inl k) ()) (amount_end m ρ (peer c) (.inr k) ()) (debt c (itemNo k + 1)) (debt_step c k) (W := W)
    (by rw [payload_end]; exact h₁) (by rw [payload_end]; exact h₂)) $$ [Hs Hd HtS HtR HO]
  · isplitr; · iapply (records_inv m ρ K (c, .inr (.inl k))); iexact HR
    isplitr; · iapply (records_inv m ρ K (peer c, .inr (.inr k))); iexact HR
    isplitl [Hs]; · iexact Hs
    isplitl [Hd]; · iexact Hd
    isplitl [HO]; · iexact HO
    isplitl [HtS]; · iexact HtS
    isplitr; · iapply (records_reached m ρ K (c, .inr (.inl k))); iexact HR
    isplitl [HtR]; · iexact HtR
    iapply (records_reached m ρ K (peer c, .inr (.inr k))); iexact HR
  iintro ⟨Hc, HO⟩
  iapply Hk
  isplitl [Hc]; · iexact Hc
  iexists W; iexact HO

/-- Chunk `i` before it is sent, -/
def unsent (c : Dev nD) (i : Fin 8) : sProp 𝕄 := iprop(toks c (.inl i) ∗ slotAny sM c i ∗ slotAny rM (peer c) i)
/-- and after: its departure can be waited for. -/
def sent (c : Dev nD) (i : Fin 8) : sProp 𝕄 := cred (tallyAt (sendCell c (.inl i)) () (amt (.inl i)))

/-- After `n` chunks have been computed, stored and sent. -/
def sendSt (c : Dev nD) (n : ℕ) : sProp 𝕄 :=
  iprop(records m ρ K ∗ xPts m ρ c ∗ wPts m ρ c ∗ outSt m ρ c (fun j => ∃ i : Fin 8, i.val < n ∧ j = own c i)
    ∗ phase n (unsent c) (sent c) ∗ owing c (debt c n))

omit [FloatOps F] in
theorem hz : (![0, 0] : Fin 2 → Nat) = fun _ => 0 := funext fun a => by fin_cases a <;> rfl

omit [FloatOps F] in
theorem read_x {bx} (f : (cc0_stg0_0 : Ref sig .tc).ty.Contents (Elt F)) :
    (xM : Memref sig .tc .vmem S256x512 .f32).view.readAt (Elt F) (Rect.unit (s := S256x512) ![0, 0] S256x512.size bx).toLoadRect f = f :=
  Memref.readAt_unit_zero (Elt F) cc0_stg0_0 hz _ f

/-- One chunk: the exponentials to the result's block and, narrowed, to the partner. -/
theorem wp_chunk {α : Type} {Q : α → sProp 𝕄} (c : Dev nD) (i : Fin 8) (n₀ n₁ : ℕ) (hn₀ : n₀ = i.val) (hn₁ : n₁ = i.val + 1) {n : Dev nD} (hn : n = peer c)
    {ow oo : Fin 2 → ℕ} {os : Fin 3 → ℕ} (how : ow = ![0, 512 * i.val]) (hoo : oo = ![0, 512 * (own c i).val]) (hos : os = ![i.val, 0, 0])
    {qs qr : DmaSem sig} (hqs : qs = dsem (.inl (.inl i))) (hqr : qr = dsem (.inr (.inl i)))
    {E : Vec F S256x512 .f32 → Vec F S512x512 .f32 → Vec F S256x512 .f32} {B : Vec F S256x512 .f32 → Vec F S512x512 .f32 → Vec F S1x256x512 .bf16}
    (hE : E = k0_pay1) (hB : B = fun a b => k0_pay3 (k0_pay1 a b))
    {bx hlx bw hlw bo bo' hlo bs bs' bs'' bs''' hls hxo hmo hxs hms hst hst' hsc hsrc hdst hsem}
    {k : Vec F S256x512 .f32 → Vec F S512x512 .f32 → PUnit → Prog (TpuEff nD τ sig (Elt F) Λ₀ .tc) α} :
    sendSt m ρ K c n₀
      ⊢ iprop((sendSt m ρ K c n₁ -∗ wp frame (wpE (defs₀ (F := F)) 𝒱₀ (c : Thread nD τ) none) Set.univ (k (xstg m ρ c) (wcol m ρ c i) ⟨⟩) Q)
          -∗ wp frame (wpE (defs₀ (F := F)) 𝒱₀ (c : Thread nD τ) none) Set.univ
            (.op (.load xM (Rect.unit (s := S256x512) ![0, 0] S256x512.size bx).toLoadRect hlx) fun a =>
              .op (.load wM (Rect.unit (s := S512x4096) ow S512x512.size bw).toLoadRect hlw) fun b =>
              .op (.load oM (Rect.unit (s := S256x8192) oo S256x512.size bo).toLoadRect hlo) fun _ =>
              .op (.store oM (Rect.unit (s := S256x8192) oo S256x512.size bo') (E a b) Finset.univ hxo hmo) fun _ =>
              .op (.load sM (Rect.unit (s := S8x256x512) os S1x256x512.size bs).toLoadRect hls) fun _ =>
              .op (.store sM (Rect.unit (s := S8x256x512) os S1x256x512.size bs') (B a b) Finset.univ hxs hms) fun _ =>
              .op (.enqueueDma ((sM.slice (Rect.unit (s := S8x256x512) os S1x256x512.size bs'') hst).squeeze S256x512 squeezes_S1x256x512_S256x512)
                (.remote (Dev.tc n : Thread nD τ) ((rM.slice (Rect.unit (s := S8x256x512) os S1x256x512.size bs''') hst').squeeze S256x512 squeezes_S1x256x512_S256x512)
                  (.dma qs) hsc) (.dma qr) hsrc hdst hsem) (k a b)) Q) := by
  subst hn₀ hn₁ how hoo hos hE hB
  unfold sendSt xPts wPts
  iintro ⟨#HR, Hx, Hw, Ho, Hph, HO⟩ Hk
  ihave H := (phase_step i (unsent c) (sent c)) $$ Hph
  unfold unsent slotAny slotIs owns
  icases H with ⟨⟨Ht, ⟨%Xs, %fs, %hfs, Hs⟩, ⟨%Xr, %fr, %hfr, Hr⟩⟩, Hph⟩
  iapply (wp_load 𝒱₀ (c : Thread nD τ) none Set.univ (m := xM) (Finset.subset_univ _)) $$ Hx; iintro Hx
  rw [read_x]
  iapply (wp_load_rect 𝒱₀ (c : Thread nD τ) none Set.univ (m := wM) (r := wcolR i) (Finset.subset_univ _)) $$ Hw; iintro Hw
  iapply (wp_fill m ρ c (own c i) _ (fun j => ∃ i' : Fin 8, i'.val < i.val + 1 ∧ j = own c i')
      (fun j ⟨i', hi', e⟩ => (Nat.lt_succ_iff_lt_or_eq.mp hi').elim (fun h => .inr ⟨i', h, e⟩) (fun h => .inl (by rw [e, Fin.ext h])))
      (blockE_own m ρ c i).symm) $$ Ho; iintro Ho
  iapply (wp_load_rect 𝒱₀ (c : Thread nD τ) none Set.univ (m := sM) (r := slotR i) (Finset.Subset.refl _)) $$ Hs; iintro Hs
  iapply (wp_store 𝒱₀ (c : Thread nD τ) none Set.univ (m := sM) (r := slotR i) (Mk := Finset.univ) (by rw [View.setOn_univ])) $$ Hs; iintro Hs
  iapply (wp_transfer m ρ K c (.inl i) (src := flatM sM i) (dst := flatM rM i) hqs hqr hn rfl
      ((sM.access (slotR i)).write (Elt F) fs (sentB m ρ c i) Finset.univ) fr
      (by rw [flat_pts]; exact slotAny_intro sM c i _)
      (by
        rw [flat_pts]
        refine (owns_intro (peer c : Thread nD τ) (slotM rM i) fullShare _).trans (Entails.of_eq ?_)
        show slotIs rM (peer c) i _ = slotIs rM (peer c) i (sentB m ρ (peer (peer c)) i)
        rw [flat_landed, View.read_write_univ, peer_peer])) $$ [Hs Hr Ht HO]
  · isplitr; · iexact HR
    isplitl [Hs]; · rw [flat_pts]; iexact Hs
    isplitl [Hr]; · rw [flat_pts]; iexact Hr
    isplitl [Ht]; · iexact Ht
    iexact HO
  iintro ⟨Hc, HO⟩
  iapply Hk
  isplitr; · iexact HR
  isplitl [Hx]; · iexact Hx
  isplitl [Hw]; · iexact Hw
  isplitl [Ho]; · iexact Ho
  isplitl [Hph Hc]; · iapply Hph; unfold sent; iexact Hc
  iexact HO

/-! ## Receiving -/

/-- After `n` chunks have arrived and been copied to the result. -/
def recvSt (c : Dev nD) (n : ℕ) : sProp 𝕄 :=
  iprop(records m ρ K ∗ outSt m ρ c (fun j => (∃ i : Fin 8, i.val < 8 ∧ j = own c i) ∨ ∃ i : Fin 8, i.val < n ∧ j = own (peer c) i)
    ∗ phase n (fun i => pending c (.inr (.inl i))) (fun i => settled m ρ c (.inr (.inl i))) ∗ owing c 0)

/-- One arrival, widened into the partner's block of the result. -/
theorem wp_arrival {α : Type} {Q : α → sProp 𝕄} (c : Dev nD) (i : Fin 8) (n₀ n₁ : ℕ) (hn₀ : n₀ = i.val) (hn₁ : n₁ = i.val + 1)
    {oo : Fin 2 → ℕ} {os : Fin 3 → ℕ} (hoo : oo = ![0, 512 * (own (peer c) i).val]) (hos : os = ![i.val, 0, 0])
    {qr : DmaSem sig} (hqr : qr = dsem (.inr (.inl i)))
    {X : Vec F S1x256x512 .bf16 → Vec F S256x512 .f32} (hX : X = k0_pay28)
    {src : Memref sig .tc .vmem S256x512 .bf16} {bo bo' hlo bs bs' hls hxo hmo hst hsrc hdst}
    {k : PUnit → Prog (TpuEff nD τ sig (Elt F) Λ₀ .tc) α} :
    recvSt m ρ K c n₀
      ⊢ iprop((recvSt m ρ K c n₁ -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 qr src ((rM.slice (Rect.unit (s := S8x256x512) os S1x256x512.size bs) hst).squeeze S256x512 squeezes_S1x256x512_S256x512) hsrc hdst) fun _ =>
              .op (.load rM (Rect.unit (s := S8x256x512) os S1x256x512.size bs').toLoadRect hls) fun a =>
              .op (.load oM (Rect.unit (s := S256x8192) oo S256x512.size bo).toLoadRect hlo) fun _ =>
              .op (.store oM (Rect.unit (s := S256x8192) oo S256x512.size bo') (X a) Finset.univ hxo hmo) k) Q) := by
  subst hn₀ hn₁ hoo hos hX
  unfold recvSt
  iintro ⟨#HR, Ho, Hph, HO⟩ Hk
  ihave H := (phase_step i (fun i => pending c (.inr (.inl i))) (fun i => settled m ρ c (.inr (.inl i)))) $$ Hph
  icases H with ⟨Hp, Hph⟩
  iapply (wp_end m ρ K c (.inr (.inl i)) (dst := flatM rM i) hqr rfl) $$ [Hp HO]
  · isplitr; · iexact HR
    isplitl [Hp]; · iexact Hp
    iexact HO
  unfold settled
  iintro ⟨⟨Hz, Hpay⟩, HO⟩
  ihave Hpay' := (show endPay m ρ c (.inr (.inl i)) ⊢ owns (c : Thread nD τ) (slotM rM i) fullShare (sentB m ρ (peer c) i) from BI.Entails.refl _) $$ Hpay
  unfold owns
  icases Hpay' with ⟨%fr, %hfr, Hr⟩
  iapply (wp_load_rect 𝒱₀ (c : Thread nD τ) none Set.univ (m := rM) (r := slotR i) (Finset.Subset.refl _)) $$ Hr; iintro Hr
  iapply (wp_fill m ρ c (own (peer c) i) _ (fun j => (∃ i : Fin 8, i.val < 8 ∧ j = own c i) ∨ ∃ i' : Fin 8, i'.val < i.val + 1 ∧ j = own (peer c) i')
      (fun j h => h.elim (fun h => .inr (.inl h)) fun ⟨i', hi', e⟩ =>
        (Nat.lt_succ_iff_lt_or_eq.mp hi').elim (fun h => .inr (.inr ⟨i', h, e⟩)) (fun h => .inl (by rw [e, Fin.ext h])))
      (by rw [blockE_peer]; exact congrArg k0_pay28 hfr)) $$ Ho; iintro Ho
  iapply Hk
  isplitr; · iexact HR
  isplitl [Ho]; · iexact Ho
  isplitl [Hph Hz Hr]
  · iapply Hph
    isplitl [Hz]; · iexact Hz
    iapply (show owns (c : Thread nD τ) (slotM rM i) fullShare (sentB m ρ (peer c) i) ⊢ endPay m ρ c (.inr (.inl i)) from BI.Entails.refl _)
    unfold owns
    iexists fr
    isplitr; · ipureintro; exact hfr
    iexact Hr
  iexact HO

/-! ## Departures -/

/-- After `n` chunk departures have been waited for. -/
def backSt (c : Dev nD) (n : ℕ) : sProp 𝕄 :=
  iprop(records m ρ K ∗ phase n (fun i => pending c (.inl (.inl i))) (fun i => settled m ρ c (.inl (.inl i))) ∗ owing c 0)

theorem wp_departure {α : Type} {Q : α → sProp 𝕄} (c : Dev nD) (i : Fin 8) (n₀ n₁ : ℕ) (hn₀ : n₀ = i.val) (hn₁ : n₁ = i.val + 1) {qs : DmaSem sig} (hqs : qs = dsem (.inl (.inl i)))
    {src dst : Memref sig .tc .vmem S256x512 .bf16} {hsrc hdst} (ha : dst.view.dmaCredit = N) {k : PUnit → Prog (TpuEff nD τ sig (Elt F) Λ₀ .tc) α} :
    backSt m ρ K c n₀
      ⊢ iprop((backSt m ρ K c n₁ -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst hsrc hdst) k) Q) := by
  subst hn₀ hn₁
  unfold backSt
  iintro ⟨#HR, Hph, HO⟩ Hk
  ihave H := (phase_step i (fun i => pending c (.inl (.inl i))) (fun i => settled m ρ c (.inl (.inl i)))) $$ Hph
  icases H with ⟨Hp, Hph⟩
  iapply (wp_end m ρ K c (.inl (.inl i)) hqs ha) $$ [Hp HO]
  · isplitr; · iexact HR
    isplitl [Hp]; · iexact Hp
    iexact HO
  iintro ⟨Hz, HO⟩
  iapply Hk
  isplitr; · iexact HR
  isplitl [Hph Hz]; · iapply Hph; iexact Hz
  iexact HO

end Cert.Exchange

end
-- ==== Proof.Body.lean ====
/- The kernel's body on one device: from the launch's holdings to the exchanged, scaled result. -/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting along items and ends -/

omit [FloatOps F] in
theorem bigSep_item (Φ : Item → sProp 𝕄) : bigSep Finset.univ Φ = iprop((bigSep Finset.univ fun i : Fin 8 => Φ (.inl i)) ∗ Φ (.inr ())) := by
  rw [BI.bigSep_univ_sum, BI.bigSep_univ_of_subsingleton ()]; rfl
omit [FloatOps F] in
theorem bigSep_end (Φ : End → sProp 𝕄) :
    bigSep Finset.univ Φ = iprop((bigSep Finset.univ fun k => Φ (.inl k)) ∗ bigSep Finset.univ fun k => Φ (.inr k)) :=
  BI.bigSep_univ_sum Φ

omit [FloatOps F] in
theorem pending_recv (c : Dev nD) (k : Item) :
    (pending c (.inr k) : sProp 𝕄) = iprop(atPos ER (recvCell c k) 0 ∅ 0 ∗ cred (tallyAt (recvCell c k) () (amt k))) := rfl
omit [FloatOps F] in
theorem pending_send (c : Dev nD) (k : Item) :
    (pending c (.inl k) : sProp 𝕄) = iprop(atPos ER (sendCell c k) 0 ∅ 0 ∗ cred (tallyAt (sendCell c k) () (amt k))) := rfl

/-! ## The device's holdings -/

/-- The four exchange buffers, holding anything. -/
def scratch (c : Dev nD) : sProp 𝕄 :=
  iprop((bigSep Finset.univ fun i => slotAny sM c i) ∗ (bigSep Finset.univ fun i => slotAny rM c i) ∗ statAny tM c ∗ statAny uM c)

/-- The device's place at each of its cells, and the rights to its partner's barrier and to its transfers. -/
def linear (c : Dev nD) : sProp 𝕄 :=
  iprop((atPos ER (barCell c) 0 ∅ 0 ∗ bigSep Finset.univ fun k : End => atPos ER (dCell c k) 0 ∅ 0)
    ∗ dutyTok ER (barCell (peer c)) 0 () ∗ bigSep Finset.univ fun k : Item => toks c k)

/-- The waits the device may make of what others owe it. -/
def creds (c : Dev nD) : sProp 𝕄 :=
  iprop(cred (tallyAt (barCell c) () 1) ∗ bigSep Finset.univ fun k : Item => cred (tallyAt (recvCell c k) () (amt k)))

def start (c : Dev nD) : sProp 𝕄 := iprop((∃ K, records m ρ K ∗ linear c) ∗ creds c ∗ levAts L lv)

def Φ₀ (c : Dev nD) : sProp 𝕄 := iprop(start m ρ c ∗ scratch c)
def Φ₁ (c : Dev nD) : sProp 𝕄 := iprop(semVal (barCell c) 0 ∗ (bigSep Finset.univ fun k : End => semVal (dCell c k) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def t₀ : Fin cfg0.N := ⟨0, by decide⟩
theorem fin_N (t : Fin cfg0.N) : t = t₀ := by obtain ⟨t, ht⟩ := t; have : cfg0.N = 1 := N_0; exact Fin.ext (by simp only [t₀]; omega)

/-! ## Computed addresses -/

theorem off1 (c : Dev nD) (i : Fin 8) : k0_off1 c (BitVec.ofNat 32 (512 * i.val)) = ![0, 512 * (own c i).val] := by
  rw [k0_off1_eq, own_val]
theorem off2 (c : Dev nD) (i : Fin 8) : k0_off2 c (BitVec.ofNat 32 (512 * i.val)) = ![0, 512 * (own (peer c) i).val] := by
  rw [k0_off2_eq, own_peer_val]

/-! ## Whole-buffer reads and writes -/

theorem write_tM (f X : Vec F S256x1 .f32) (b) :
    ((tM : Memref sig .tc .vmem S256x1 .f32).access (Rect.unit (s := S256x1) ![0, 0] S256x1.size b)).write (Elt F) f X Finset.univ = X :=
  Memref.write_access_unit_zero_univ (Elt F) cc0_scratch2 hz _ f X
theorem write_oM (f X : Vec F S256x8192 .f32) (b) :
    ((oM : Memref sig .tc .vmem S256x8192 .f32).access (Rect.unit (s := S256x8192) ![0, 0] S256x8192.size b)).write (Elt F) f X Finset.univ = X :=
  Memref.write_access_unit_zero_univ (Elt F) cc0_stg2_0 hz _ f X
theorem read_oM (f : Vec F S256x8192 .f32) (b) :
    (oM : Memref sig .tc .vmem S256x8192 .f32).view.readAt (Elt F) (Rect.unit (s := S256x8192) ![0, 0] S256x8192.size b).toLoadRect f = f :=
  Memref.readAt_unit_zero (Elt F) cc0_stg2_0 hz _ f
theorem read_uM (f : Vec F S256x1 .f32) (b) :
    (uM : Memref sig .tc .vmem S256x1 .f32).view.readAt (Elt F) (Rect.unit (s := S256x1) ![0, 0] S256x1.size b).toLoadRect f = f :=
  Memref.readAt_unit_zero (Elt F) cc0_scratch3 hz _ f

/-! ## Stages of the body -/

variable (K : Dev nD × (Unit ⊕ End) → ℕ)

/-- The handshake: the partner is told that its buffers here are ready, and its word is awaited. -/
theorem wp_handshake {α : Type} {Q : α → sProp 𝕄} (c : Dev nD) {n : Dev nD} (hn : n = peer c)
    {k : PUnit → Prog (TpuEff nD τ sig (Elt F) Λ₀ .tc) α} :
    iprop(records m ρ K ∗ levAts L lv ∗ atPos ER (barCell c) 0 ∅ 0 ∗ dutyTok ER (barCell (peer c)) 0 () ∗ cred (tallyAt (barCell c) () 1)
        ∗ ((bigSep Finset.univ fun i => slotAny rM c i) ∗ statAny uM c) ∗ owing c (O₀ c))
      ⊢ iprop(((semVal (barCell c) 0 ∗ ((bigSep Finset.univ fun i => slotAny rM (peer c) i) ∗ statAny uM (peer c)) ∗ owing c (debt c 0))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32).toNat) fun _ => .op (.semWait barS (1#32).toNat) k) Q) := by
  subst hn
  unfold owing
  iintro ⟨#HR, #Hlev, Hat, Ht, Hc, Hbuf, ⟨%W, HO⟩⟩ Hk
  iapply (Rounds.wp_signal 𝒱₀ ER (sched m ρ) (c : Thread nD τ) none (dst := (peer c : Thread nD τ)) (κ := K (peer c, .inl ()))
      (by rw [duties_bar]; exact Finset.mem_singleton_self _) ((amount_bar m ρ (peer c) ()).trans (by decide)) () (debt c 0) rfl)
    $$ [HO Ht Hbuf]
  · isplitr; · iapply (records_inv m ρ K (peer c, .inl ())); iexact HR
    isplitl [HO]; · iexact HO
    isplitl [Ht]; · iexact Ht
    isplitl [Hbuf]
    · rw [payload_bar]; unfold barPay; rw [peer_peer]; iexact Hbuf
    · iapply (records_reached m ρ K (peer c, .inl ())); iexact HR
  iintro HO
  iapply (Rounds.wp_wait_rest_token 𝒱₀ ER (sched m ρ) (c : Thread nD τ) none (κ := K (c, .inl ()))
      (wpE_semWait_eq 𝒱₀ (c : Thread nD τ) none Set.univ) (Set.mem_univ _) () (O := debt c 0) (W := W) (R := 0) (m := 0) (T := ∅)
      (by rw [expect_bar]; decide)) $$ [Hc HO Hat]
  · isplitr; · iapply (records_inv m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iapply (records_inv m ρ K (c, .inl ())); iexact HR
    iexact Hat
  iapply Hk
  isplitl [Hz]; · iexact Hz
  isplitl [Hp]; · unfold barPay; iexact Hp
  iexists _; iexact HO

/-- The row sums are stored and sent. -/
theorem wp_sendSums {α : Type} {Q : α → sProp 𝕄} (c : Dev nD) {n : Dev nD} (hn : n = peer c) {b b' hl hx hm hsc hsrc hdst hsem}
    {X : Vec F S256x1 .f32} (hX : X = total m ρ c) {k : PUnit → Prog (TpuEff nD τ sig (Elt F) Λ₀ .tc) α} :
    iprop(records m ρ K ∗ statAny tM c ∗ statAny uM (peer c) ∗ toks c (.inr ()) ∗ owing c (debt c 8))
      ⊢ iprop(((cred (tallyAt (sendCell c (.inr ())) () (amt (.inr ()))) ∗ owing c 0)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load tM (Rect.unit (s := S256x1) ![0, 0] S256x1.size b).toLoadRect hl) fun _ =>
              .op (.store tM (Rect.unit (s := S256x1) ![0, 0] S256x1.size b') X Finset.univ hx hm) fun _ =>
              .op (.enqueueDma tM (.remote (Dev.tc n : Thread nD τ) uM (.dma (cc0_scratch6 : DmaSems sig S_).sem) hsc) (.dma (cc0_scratch7 : DmaSems sig S_).sem) hsrc hdst hsem) k) Q) := by
  subst hX
  iintro ⟨#HR, Ht, Hu, Htok, HO⟩ Hk
  ihave Ht' := (show statAny tM c ⊢ iprop(∃ X f, ⌜(tM : Memref sig .tc .vmem S256x1 .f32).view.read (Elt F) f = X⌝
      ∗ (tM.view.loc (c : Thread nD τ) ↦[tM.view.set]{fullShare} f)) from BI.Entails.refl _) $$ Ht
  ihave Hu' := (show statAny uM (peer c) ⊢ iprop(∃ X f, ⌜(uM : Memref sig .tc .vmem S256x1 .f32).view.read (Elt F) f = X⌝
      ∗ (uM.view.loc (peer c : Thread nD τ) ↦[uM.view.set]{fullShare} f)) from BI.Entails.refl _) $$ Hu
  icases Ht' with ⟨%Xt, %ft, -, Ht⟩
  icases Hu' with ⟨%Xu, %fu, -, Hu⟩
  iapply (wp_load 𝒱₀ (c : Thread nD τ) none Set.univ (m := tM) (by rw [View.set_whole]; exact Finset.subset_univ _)) $$ Ht; iintro Ht
  iapply (wp_store 𝒱₀ (c : Thread nD τ) none Set.univ (m := tM) (r := Rect.unit (s := S256x1) ![0, 0] S256x1.size b') (Mk := Finset.univ)
    (by rw [View.set_whole]; exact Finset.subset_univ _)) $$ Ht; iintro Ht
  rw [write_tM]
  iapply (wp_transfer m ρ K c (.inr ()) (src := tM) (dst := uM) rfl rfl hn rfl (total m ρ c) fu
      (by
        show _ ⊢ statAny tM c
        unfold statAny statIs; iintro H; iexists _; iapply (owns_intro (c : Thread nD τ) tM fullShare _); iexact H)
      (by
        refine (owns_intro (peer c : Thread nD τ) uM fullShare _).trans (Entails.of_eq ?_)
        show statIs uM (peer c) _ = statIs uM (peer c) (total m ρ (peer (peer c)))
        rw [peer_peer, View.read_write_univ]
        show statIs uM (peer c) ((View.whole cc0_scratch2).read (Elt F) (total m ρ c)) = _
        rw [View.read_whole])) $$ [Ht Hu Htok HO]
  · isplitr; · iexact HR
    isplitl [Ht]; · iexact Ht
    isplitl [Hu]; · iexact Hu
    isplitl [Htok]; · iexact Htok
    iexact HO
  rw [show debt c (itemNo (.inr ()) + 1) = 0 from debt_done c]
  iexact Hk

/-- The last stage: the whole result is scaled by the reciprocal of the two row sums. -/
theorem wp_scale {α : Type} {Q : α → sProp 𝕄} (c : Dev nD) {bo bo' bo'' bu hlo hlu hlo' hx hm}
    {k : PUnit → Prog (TpuEff nD τ sig (Elt F) Λ₀ .tc) α} :
    iprop(outSt m ρ c (fun _ => True) ∗ statIs uM c (total m ρ (peer c)))
      ⊢ iprop(((outPts c (outAt m ρ c) ∗ statAny uM c) -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM (Rect.unit (s := S256x8192) ![0, 0] S256x8192.size bo).toLoadRect hlo) fun a =>
              .op (.load uM (Rect.unit (s := S256x1) ![0, 0] S256x1.size bu).toLoadRect hlu) fun b =>
              .op (.load oM (Rect.unit (s := S256x8192) ![0, 0] S256x8192.size bo').toLoadRect hlo') fun _ =>
              .op (.store oM (Rect.unit (s := S256x8192) ![0, 0] S256x8192.size bo'') (k0_pay36 (sums m ρ c 8) a b) Finset.univ hx hm) k) Q) := by
  unfold outSt outPts
  iintro ⟨⟨%f, %hf, Ho⟩, Hu⟩ Hk
  have hf := hf.eq
  subst hf
  ihave Hu' := (show statIs uM c (total m ρ (peer c)) ⊢ iprop(∃ f, ⌜(uM : Memref sig .tc .vmem S256x1 .f32).view.read (Elt F) f = total m ρ (peer c)⌝
      ∗ (uM.view.loc (c : Thread nD τ) ↦[uM.view.set]{fullShare} f)) from BI.Entails.refl _) $$ Hu
  icases Hu' with ⟨%fu, %hfu, Hu⟩
  have hfu : fu = total m ρ (peer c) := by
    have h : (View.whole cc0_scratch3).read (Elt F) fu = total m ρ (peer c) := hfu
    rwa [View.read_whole] at h
  subst hfu
  iapply (wp_load 𝒱₀ (c : Thread nD τ) none Set.univ (m := oM) (Finset.subset_univ _)) $$ Ho; iintro Ho
  iapply (wp_load 𝒱₀ (c : Thread nD τ) none Set.univ (m := uM) (by rw [View.set_whole]; exact Finset.subset_univ _)) $$ Hu; iintro Hu
  iapply (wp_load 𝒱₀ (c : Thread nD τ) none Set.univ (m := oM) (Finset.subset_univ _)) $$ Ho; iintro Ho
  iapply (wp_store 𝒱₀ (c : Thread nD τ) none Set.univ (m := oM) (r := Rect.unit (s := S256x8192) ![0, 0] S256x8192.size bo'') (Mk := Finset.univ)
    (Finset.subset_univ _)) $$ Ho; iintro Ho
  rw [read_oM, read_uM, write_oM]
  iapply Hk
  isplitl [Ho]; · iexact Ho
  unfold statAny statIs
  iexists _
  iapply (owns_intro (c : Thread nD τ) uM fullShare _); iexact Hu

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

/-- From the handshake's end and the rights to send, the sending stage can begin. -/
theorem sendSt_intro (c : Dev nD) :
    iprop(records m ρ K ∗ xPts m ρ c ∗ wPts m ρ c ∗ (∃ f, outPts c f)
        ∗ (bigSep Finset.univ fun i : Fin 8 => toks c (.inl i)) ∗ (bigSep Finset.univ fun i => slotAny sM c i)
        ∗ (bigSep Finset.univ fun i => slotAny rM (peer c) i) ∗ owing c (debt c 0))
      ⊢ sendSt m ρ K c 0 := by
  unfold sendSt outSt unsent
  rw [phase_start, bigSep_sep', bigSep_sep']
  iintro ⟨#HR, Hx, Hw, ⟨%f, Ho⟩, Ht, Hs, Hr, HO⟩
  isplitr; · iexact HR
  isplitl [Hx]; · iexact Hx
  isplitl [Hw]; · iexact Hw
  isplitl [Ho]
  · iexists f
    isplitr; · ipureintro; exact fun j ⟨i, hi, _⟩ => absurd hi (Nat.not_lt_zero _)
    iexact Ho
  isplitl [Ht Hs Hr]
  · isplitl [Ht]; · iexact Ht
    isplitl [Hs] <;> iassumption
  iexact HO

/-- With all chunks sent, the receiving stage can begin. -/
theorem recvSt_intro (c : Dev nD) :
    iprop(records m ρ K ∗ outSt m ρ c (fun j => ∃ i : Fin 8, i.val < 8 ∧ j = own c i)
        ∗ (bigSep Finset.univ fun i : Fin 8 => pending c (.inr (.inl i))) ∗ owing c 0)
      ⊢ recvSt m ρ K c 0 := by
  unfold recvSt outSt
  rw [phase_start]
  iintro ⟨#HR, ⟨%f, %hf, Ho⟩, Hp, HO⟩
  isplitr; · iexact HR
  isplitl [Ho]
  · iexists f
    isplitr
    · ipureintro
      exact fun j h => h.elim (hf j) fun ⟨i, hi, _⟩ => absurd hi (Nat.not_lt_zero _)
    iexact Ho
  isplitl [Hp] <;> iassumption

/-- Both halves filled is everything filled. -/
theorem outSt_all (c : Dev nD) :
    outSt m ρ c (fun j => (∃ i : Fin 8, i.val < 8 ∧ j = own c i) ∨ ∃ i : Fin 8, i.val < 8 ∧ j = own (peer c) i) ⊢ outSt m ρ c (fun _ => True) := by
  unfold outSt
  iintro ⟨%f, %hf, Ho⟩
  iexists f
  isplitr
  · ipureintro
    exact fun j _ => hf j ((own_cases c j).elim (fun h => .inl ⟨_, (chunkNo j).isLt, h⟩) fun h => .inr ⟨_, (chunkNo j).isLt, h⟩)
  iexact Ho

/-- Everything waited for and everything computed is what the body must leave. -/
theorem body_end (c : Dev nD) :
    iprop(semVal (barCell c) 0 ∗ (bigSep Finset.univ fun i : Fin 8 => settled m ρ c (.inl (.inl i))) ∗ settled m ρ c (.inl (.inr ()))
        ∗ (bigSep Finset.univ fun i : Fin 8 => settled m ρ c (.inr (.inl i))) ∗ semVal (dCell c (.inr (.inr ()))) 0 ∗ statAny uM c
        ∗ xPts m ρ c ∗ wPts m ρ c ∗ outPts c (outAt m ρ c) ∗ owing c 0)
      ⊢ bodyPost m ρ c := by
  have hr : (bigSep Finset.univ fun i : Fin 8 => endPay m ρ c (.inr (.inl i))) ⊢ bigSep Finset.univ fun i : Fin 8 => slotAny rM c i :=
    bigSep_mono fun i _ => slotIs_any rM c i (sentB m ρ (peer c) i)
  unfold bodyPost Φ₁ Dat.owesAt Pipeline.owesWithin scratch owing xPts wPts outPts settled
  rw [show (dats m ρ 0 c).owed t₀.succ = 0 from rfl, bigSep_end, bigSep_item, bigSep_item, bigSep_sep', bigSep_sep']
  iintro ⟨HzB, ⟨HzS, Hs⟩, ⟨HzSs, Hst⟩, ⟨HzV, Hr⟩, HzVs, Hsu, Hx, Hw, Hout, ⟨%W', HO⟩⟩
  isplitl [HzB HzS HzSs HzV HzVs Hs Hr Hst Hsu]
  · isplitl [HzB]; · iexact HzB
    isplitl [HzS HzSs HzV HzVs]
    · isplitl [HzS HzSs]
      · isplitl [HzS] <;> iassumption
      isplitl [HzV] <;> iassumption
    isplitl [Hs]
    · iapply (show (bigSep Finset.univ fun i : Fin 8 => endPay m ρ c (.inl (.inl i))) ⊢ bigSep Finset.univ fun i : Fin 8 => slotAny sM c i from
        BI.Entails.refl _)
      iexact Hs
    isplitl [Hr]; · iapply hr; iexact Hr
    isplitl [Hst]
    · iapply (show endPay m ρ c (.inl (.inr ())) ⊢ statAny tM c from BI.Entails.refl _); iexact Hst
    iexact Hsu
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 65536 in
set_option maxHeartbeats 1000000 in
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) Kt := by
  simp only [cc0_body_eq_skeleton, cc0_body_skel]
  simp only [k0_part1_eq_skeleton]
  unfold k0_part1_skel
  simp only [semSignalWord, semWaitWord, Prog.lift, Prog.bind_op, Prog.bind_ret, Prog.pure_eq_ret, wp_deviceId]
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [Prog.lift, Prog.bind_op, Prog.bind_ret, Prog.pure_eq_ret]
  unfold bodyPre Φ₀ start linear creds scratch
  rw [bigSep_end, bigSep_item, bigSep_item, bigSep_item, bigSep_item]
  iintro ⟨⟨⟨⟨⟨%K, #HR, ⟨HatB, ⟨HatS, HatSs⟩, HatV, HatVs⟩, HtB, Ht, Hts⟩, ⟨HcB, HcV, HcVs⟩, #Hlev⟩, ⟨Hs, Hr, Hst, Hsu⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]
  iapply (wp_handshake m ρ K c (dev_eq c _ (k0_dev1_eq c))) $$ [HatB HtB HcB Hr Hsu HO]
  · isplitr; · iexact HR
    isplitr; · iexact Hlev
    isplitl [HatB]; · iexact HatB
    isplitl [HtB]; · iexact HtB
    isplitl [HcB]; · iexact HcB
    isplitl [Hr Hsu]
    · isplitl [Hr] <;> iassumption
    unfold owing; iexists W; iexact HO
  iintro ⟨HzB, ⟨Hr, Hsu⟩, HO⟩
  ihave HS := (sendSt_intro m ρ K c) $$ [Hx Hw Hout Ht Hs Hr HO]
  · isplitr; · iexact HR
    isplitl [Hx]; · unfold xPts; iexact Hx
    isplitl [Hw]; · unfold wPts; iexact Hw
    isplitl [Hout]; · unfold outPts; iexists g2; iexact Hout
    isplitl [Ht]; · iexact Ht
    isplitl [Hs]; · iexact Hs
    isplitl [Hr] <;> iassumption
  iapply (wp_chunk m ρ K c 0 0 1 rfl rfl (dev_eq c _ (k0_dev2_eq c)) rfl (off1 c 0) rfl rfl rfl rfl rfl) $$ HS; iintro HS
  iapply (wp_chunk m ρ K c 1 1 2 rfl rfl (dev_eq c _ (k0_dev3_eq c)) rfl (off1 c 1) rfl rfl rfl rfl rfl) $$ HS; iintro HS
  iapply (wp_chunk m ρ K c 2 2 3 rfl rfl (dev_eq c _ (k0_dev4_eq c)) rfl (off1 c 2) rfl rfl rfl rfl rfl) $$ HS; iintro HS
  iapply (wp_chunk m ρ K c 3 3 4 rfl rfl (dev_eq c _ (k0_dev5_eq c)) rfl (off1 c 3) rfl rfl rfl rfl rfl) $$ HS; iintro HS
  iapply (wp_chunk m ρ K c 4 4 5 rfl rfl (dev_eq c _ (k0_dev6_eq c)) rfl (off1 c 4) rfl rfl rfl rfl rfl) $$ HS; iintro HS
  iapply (wp_chunk m ρ K c 5 5 6 rfl rfl (dev_eq c _ (k0_dev7_eq c)) rfl (off1 c 5) rfl rfl rfl rfl rfl) $$ HS; iintro HS
  iapply (wp_chunk m ρ K c 6 6 7 rfl rfl (dev_eq c _ (k0_dev8_eq c)) rfl (off1 c 6) rfl rfl rfl rfl rfl) $$ HS; iintro HS
  iapply (wp_chunk m ρ K c 7 7 8 rfl rfl (dev_eq c _ (k0_dev9_eq c)) rfl (off1 c 7) rfl rfl rfl rfl rfl) $$ HS; iintro HS
  ihave HS' := (show sendSt m ρ K c 8 ⊢ iprop(records m ρ K ∗ xPts m ρ c ∗ wPts m ρ c
      ∗ outSt m ρ c (fun j => ∃ i : Fin 8, i.val < 8 ∧ j = own c i) ∗ (bigSep Finset.univ fun i : Fin 8 => cred (tallyAt (sendCell c (.inl i)) () (amt (.inl i)))) ∗ owing c (debt c 8)) from by
    unfold sendSt; rw [phase_end]; exact BI.Entails.refl _) $$ HS
  icases HS' with ⟨-, Hx, Hw, Ho, HcS, HO⟩
  iapply (wp_sendSums m ρ K c (dev_eq c _ (k0_dev10_eq c)) rfl) $$ [Hst Hsu Hts HO]
  · isplitr; · iexact HR
    isplitl [Hst]; · iexact Hst
    isplitl [Hsu]; · iexact Hsu
    isplitl [Hts] <;> iassumption
  iintro ⟨HcSs, HO⟩
  ihave HS := (recvSt_intro m ρ K c) $$ [Ho HatV HcV HO]
  · isplitr; · iexact HR
    isplitl [Ho]; · iexact Ho
    isplitl [HatV HcV]
    · simp only [pending_recv]; rw [bigSep_sep']
      isplitl [HatV] <;> iassumption
    iexact HO
  iapply (wp_arrival m ρ K c 0 0 1 rfl rfl (off2 c 0) rfl rfl rfl) $$ HS; iintro HS
  iapply (wp_arrival m ρ K c 1 1 2 rfl rfl (off2 c 1) rfl rfl rfl) $$ HS; iintro HS
  iapply (wp_arrival m ρ K c 2 2 3 rfl rfl (off2 c 2) rfl rfl rfl) $$ HS; iintro HS
  iapply (wp_arrival m ρ K c 3 3 4 rfl rfl (off2 c 3) rfl rfl rfl) $$ HS; iintro HS
  iapply (wp_arrival m ρ K c 4 4 5 rfl rfl (off2 c 4) rfl rfl rfl) $$ HS; iintro HS
  iapply (wp_arrival m ρ K c 5 5 6 rfl rfl (off2 c 5) rfl rfl rfl) $$ HS; iintro HS
  iapply (wp_arrival m ρ K c 6 6 7 rfl rfl (off2 c 6) rfl rfl rfl) $$ HS; iintro HS
  iapply (wp_arrival m ρ K c 7 7 8 rfl rfl (off2 c 7) rfl rfl rfl) $$ HS; iintro HS
  ihave HS' := (show recvSt m ρ K c 8 ⊢ iprop(records m ρ K
      ∗ outSt m ρ c (fun j => (∃ i : Fin 8, i.val < 8 ∧ j = own c i) ∨ ∃ i : Fin 8, i.val < 8 ∧ j = own (peer c) i)
      ∗ (bigSep Finset.univ fun i : Fin 8 => settled m ρ c (.inr (.inl i))) ∗ owing c 0) from by
    rw [← phase_end (fun i => pending c (.inr (.inl i)))]; exact BI.Entails.refl _) $$ HS
  icases HS' with ⟨-, Ho, HdV, HO⟩
  ihave Ho := (outSt_all m ρ c) $$ Ho
  iapply (wp_end m ρ K c (.inr (.inr ())) (dst := uM) rfl rfl) $$ [HatVs HcVs HO]
  · isplitr; · iexact HR
    isplitl [HatVs HcVs]
    · rw [pending_recv]; isplitl [HatVs] <;> iassumption
    iexact HO
  unfold settled
  iintro ⟨⟨HzVs, Hsu⟩, HO⟩
  iapply (wp_scale m ρ c) $$ [Ho Hsu]
  · isplitl [Ho]; · iexact Ho
    iapply (show endPay m ρ c (.inr (.inr ())) ⊢ statIs uM c (total m ρ (peer c)) from BI.Entails.refl _); iexact Hsu
  iintro ⟨Hout, Hsu⟩
  ihave HS := (show iprop(records m ρ K ∗ (bigSep Finset.univ fun i : Fin 8 => pending c (.inl (.inl i))) ∗ owing c 0) ⊢ backSt m ρ K c 0 from by
    unfold backSt; rw [phase_start]) $$ [HatS HcS HO]
  · isplitr; · iexact HR
    isplitl [HatS HcS]
    · simp only [pending_send]; rw [bigSep_sep']
      isplitl [HatS] <;> iassumption
    iexact HO
  iapply (wp_departure m ρ K c 0 0 1 rfl rfl rfl (dst := flatM sM 0) rfl) $$ HS; iintro HS
  iapply (wp_departure m ρ K c 1 1 2 rfl rfl rfl (dst := flatM sM 1) rfl) $$ HS; iintro HS
  iapply (wp_departure m ρ K c 2 2 3 rfl rfl rfl (dst := flatM sM 2) rfl) $$ HS; iintro HS
  iapply (wp_departure m ρ K c 3 3 4 rfl rfl rfl (dst := flatM sM 3) rfl) $$ HS; iintro HS
  iapply (wp_departure m ρ K c 4 4 5 rfl rfl rfl (dst := flatM sM 4) rfl) $$ HS; iintro HS
  iapply (wp_departure m ρ K c 5 5 6 rfl rfl rfl (dst := flatM sM 5) rfl) $$ HS; iintro HS
  iapply (wp_departure m ρ K c 6 6 7 rfl rfl rfl (dst := flatM sM 6) rfl) $$ HS; iintro HS
  iapply (wp_departure m ρ K c 7 7 8 rfl rfl rfl (dst := flatM sM 7) rfl) $$ HS; iintro HS
  ihave HS' := (show backSt m ρ K c 8 ⊢ iprop(records m ρ K
      ∗ (bigSep Finset.univ fun i : Fin 8 => settled m ρ c (.inl (.inl i))) ∗ owing c 0) from by
    rw [← phase_end (fun i => pending c (.inl (.inl i)))]; exact BI.Entails.refl _) $$ HS
  icases HS' with ⟨-, HdS, HO⟩
  iapply (wp_end m ρ K c (.inl (.inr ())) (dst := tM) rfl rfl) $$ [HatSs HcSs HO]
  · isplitr; · iexact HR
    isplitl [HatSs HcSs]
    · rw [pending_send]; isplitl [HatSs] <;> iassumption
    iexact HO
  iintro ⟨HdSs, HO⟩
  rw [wp_ret]; imodintro
  iapply Hk
  iapply (body_end m ρ c)
  isplitl [HzB]; · iexact HzB
  isplitl [HdS]; · iexact HdS
  isplitl [HdSs]; · iexact HdSs
  isplitl [HdV]; · iexact HdV
  isplitl [HzVs]; · iexact HzVs
  isplitl [Hsu]; · iexact Hsu
  isplitl [Hx]; · iexact Hx
  isplitl [Hw]; · iexact Hw
  isplitl [Hout] <;> iassumption

theorem body_obligation (c : Dev nD) : BodyObligation (dats (F := F) m ρ 0 c) (defs₀ (F := F)) 𝒱₀ () Set.univ := fun t => by
  rw [fin_N t]
  rw [show (bigSep Finset.univ : (Fin cfg0.W → sProp 𝕄) → sProp 𝕄) = _ from funext bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7) (fun _ => bodyPost m ρ c)
  iintro H
  iapply (sound_body m ρ c (fun _ => bodyPost m ρ c))
  isplitl [H]; · iexact H
  iintro H; iexact H

end Cert.Exchange

end
-- ==== Proof.Run.lean ====
/- The launch: what each device is handed, and the run of the whole mesh, over any float values. -/
module

public import proofs.«01_k».proof.Proof.Body
public import Idealize.ShloMosaic.Lib.Quiescent
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells at launch -/

theorem ownSemFacts : Pipeline.OwnSemFacts cfg0.spec osem := by decide

theorem dsem_inj : Function.Injective dsem := fun k k' h => by rw [← endOf_dsem k, ← endOf_dsem k', h]

theorem kcell_inj : Function.Injective kcell := by
  rintro ⟨c, k⟩ ⟨c', k'⟩ h
  have hc : c = c' := by
    rcases k with u | k <;> rcases k' with u' | k' <;> exact congrArg (fun g : GSem nD τ sig => g.1.1) h
  subst hc
  rcases k with u | k <;> rcases k' with u' | k'
  · rfl
  · exact nomatch (show (SemLoc.reg barS : SemLoc sig) = .dma (dsem k') from congrArg Prod.snd h)
  · exact nomatch (show (SemLoc.dma (dsem k) : SemLoc sig) = .reg barS from congrArg Prod.snd h)
  · have := dsem_inj (SemLoc.dma.inj (congrArg Prod.snd h)); subst this; rfl

def allCells : Finset (GSem nD τ sig) := Finset.univ.map ⟨kcell, kcell_inj⟩
/-- Every cell has one duty in its one round. -/
def allToks : Finset (GSem nD τ sig × ℕ × Unit) :=
  Finset.univ.map ⟨fun ck => (kcell ck, 0, ()), fun _ _ h => kcell_inj (congrArg Prod.fst h)⟩

def u₀ : UU := (initOf (Pipeline.cells cfgs cellOf_inj) (Pipeline.launchToks cfgs cellOf_inj), initOf allCells allToks)

/-- What device `c` holds of the schedule before the cells are shared: for each of its cells the round's state, -/
def raw (c : Dev nD) : sProp 𝕄 := bigSep Finset.univ fun k => roundState ER (sched m ρ) (kcell (c, k)) 0
/-- the place in it, -/
def places (c : Dev nD) : sProp 𝕄 := bigSep Finset.univ fun k => atPos ER (kcell (c, k)) 0 ∅ 0
/-- the fact that it is in its first round, -/
def firsts (c : Dev nD) : sProp 𝕄 := bigSep Finset.univ fun k => reached ER (kcell (c, k)) 0
/-- and the right to its one payment. -/
def rights (c : Dev nD) : sProp 𝕄 := bigSep Finset.univ fun k => dutyTok ER (kcell (c, k)) 0 ()

def G (c : Dev nD) : sProp 𝕄 := iprop(raw m ρ c ∗ places c ∗ firsts c ∗ rights c)
def G' (c : Dev nD) : sProp 𝕄 := iprop(∃ K, records m ρ K ∗ linear c)

theorem fund_all : BI.own (ER (initOf allCells allToks)) ⊢ (|==> bigSep Finset.univ (G m ρ) : sProp 𝕄) := by
  have byDev (Φ : GSem nD τ sig → sProp 𝕄) :
      bigSep allCells Φ = bigSep Finset.univ fun c : Dev nD => bigSep Finset.univ fun k => Φ (kcell (c, k)) := by
    unfold allCells; rw [bigSep_map, bigSep_univ_prod]; rfl
  have tokByDev : bigSep allToks (fun x => (dutyTok ER x.1 x.2.1 x.2.2 : sProp 𝕄)) = bigSep Finset.univ fun c : Dev nD => rights c := by
    unfold allToks; rw [bigSep_map, bigSep_univ_prod]; rfl
  have all : bigSep Finset.univ (G m ρ) = (iprop((bigSep Finset.univ fun c => raw m ρ c) ∗ (bigSep Finset.univ fun c => places c)
      ∗ (bigSep Finset.univ fun c => firsts c) ∗ bigSep Finset.univ fun c => rights c) : sProp 𝕄) := by
    unfold G; rw [bigSep_sep', bigSep_sep', bigSep_sep']
  rw [all]
  iintro H
  imod (Rounds.fund ER (sched m ρ) allCells allToks) $$ H with ⟨Hst, Hr, Hat, Htok⟩
  imodintro
  isplitl [Hst]; · iapply (Entails.of_eq (byDev fun g => roundState ER (sched m ρ) g 0)); iexact Hst
  isplitl [Hat]; · iapply (Entails.of_eq (byDev fun g => atPos ER g 0 ∅ 0)); iexact Hat
  isplitl [Hr]; · iapply (Entails.of_eq (byDev fun g => reached ER g 0)); iexact Hr
  iapply (Entails.of_eq tokByDev); iexact Htok

omit [FloatOps F] in
/-- A device's cells: its barrier and its ends. -/
theorem bigSep_cells (Φ : Unit ⊕ End → sProp 𝕄) : bigSep Finset.univ Φ = iprop(Φ (.inl ()) ∗ bigSep Finset.univ fun k : End => Φ (.inr k)) := by
  rw [BI.bigSep_univ_sum, BI.bigSep_univ_of_subsingleton ()]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem counters (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, bigSep_cells]
  iintro ⟨HO, HB⟩
  isplitl [HB]; · iexact HB
  iapply (show (Pipeline.ownSems0 (Ix := Unit) (Name := ℕ) (U := UU) (Lvl := ℕ) (Val := Elt F) (τ := τ) osem c : sProp 𝕄)
    ⊢ bigSep Finset.univ fun k : End => semVal (dCell c k) 0 from BI.Entails.refl _)
  iexact HO

/-- A device's cells become shared. -/
theorem share_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k)))) ∗ places c ∗ firsts c ∗ rights c) := by
  have open_all : iprop((bigSep Finset.univ fun k => semVal (kcell (c, k)) 0) ∗ raw m ρ c)
      ⊢ (|={Set.univ}=> bigSep Finset.univ fun k => iprop(∃ κ : ℕ, cellInv ER (sched m ρ) κ (kcell (c, k))) : sProp 𝕄) := by
    unfold raw; rw [← bigSep_sep']
    exact (bigSep_mono fun k _ => (Rounds.body_intro ER (sched m ρ) (kcell (c, k))).trans inv_alloc).trans (bigSep_fupd _ _)
  unfold G
  iintro ⟨HO, HU, Hraw, Hrest⟩
  imod open_all $$ [HO HU Hraw] with HI
  · isplitl [HO HU]
    · iapply (counters c); isplitl [HO] <;> iassumption
    · iexact Hraw
  imodintro
  isplitl [HI] <;> iassumption

omit [FloatOps F] in
/-- Rights travel: the barrier's and the arrivals' to the partner, the departures' stay. -/
theorem rights_around : (bigSep Finset.univ fun c : Dev nD => (rights c : sProp 𝕄))
    ⊢ bigSep Finset.univ fun c : Dev nD => iprop(dutyTok ER (barCell (peer c)) 0 () ∗ bigSep Finset.univ fun k : Item => toks c k) := by
  have split (c : Dev nD) : (rights c : sProp 𝕄) = iprop(dutyTok ER (barCell c) 0 ()
      ∗ (bigSep Finset.univ fun k : Item => dutyTok ER (sendCell c k) 0 ()) ∗ bigSep Finset.univ fun k : Item => dutyTok ER (recvCell c k) 0 ()) := by
    unfold rights; rw [bigSep_cells, bigSep_end]; rfl
  have join (c : Dev nD) : (iprop(dutyTok ER (barCell (peer c)) 0 () ∗ bigSep Finset.univ fun k : Item => toks c k) : sProp 𝕄)
      = iprop(dutyTok ER (barCell (peer c)) 0 () ∗ (bigSep Finset.univ fun k : Item => dutyTok ER (sendCell c k) 0 ())
        ∗ bigSep Finset.univ fun k : Item => dutyTok ER (recvCell (peer c) k) 0 ()) := by
    unfold toks; rw [bigSep_sep']
  rw [bigSep_congr fun c _ => split c, bigSep_congr fun c _ => join c, bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun k : Item => dutyTok ER (recvCell c k) 0 () : sProp 𝕄))]
  exact BI.Entails.refl _

omit [FloatOps F] in
/-- What is known to all may be told to each. -/
theorem tell_each {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (Entails.of_eq (bigSep_sep' S (fun _ => R) Φ).symm)

theorem deal : (bigSep Finset.univ fun c : Dev nD => iprop((bigSep Finset.univ fun k => iprop(∃ κ : ℕ, cellInv ER (sched m ρ) κ (kcell (c, k))))
      ∗ places c ∗ firsts c ∗ rights c) : sProp 𝕄)
    ⊢ bigSep Finset.univ (G' m ρ) := by
  have last (K : Dev nD × (Unit ⊕ End) → ℕ) : iprop(records m ρ K ∗ (bigSep Finset.univ fun c : Dev nD => places c)
        ∗ bigSep Finset.univ fun c : Dev nD => iprop(dutyTok ER (barCell (peer c)) 0 () ∗ bigSep Finset.univ fun k : Item => toks c k))
      ⊢ bigSep Finset.univ (G' m ρ) := by
    rw [← bigSep_sep']
    refine tell_each.trans (bigSep_mono fun c _ => ?_)
    unfold G' linear places
    rw [bigSep_cells]
    refine (show _ ⊢ (_ : sProp 𝕄) from ?_)
    iintro H; iexists K; iexact H
  rw [bigSep_sep', bigSep_sep', bigSep_sep', ← bigSep_univ_prod (fun ck : Dev nD × (Unit ⊕ End) => iprop(∃ κ : ℕ, cellInv ER (sched m ρ) κ (kcell ck)))]
  unfold firsts
  rw [← bigSep_univ_prod (fun ck : Dev nD × (Unit ⊕ End) => (reached ER (kcell ck) 0 : sProp 𝕄))]
  iintro ⟨HI, Hat, HR, Htok⟩
  ihave HK := (BI.bigSep_exists_pi Finset.univ (fun (ck : Dev nD × (Unit ⊕ End)) (κ : ℕ) => (cellInv ER (sched m ρ) κ (kcell ck) : sProp 𝕄))) $$ HI
  icases HK with ⟨%K, HI⟩
  iapply (last K)
  isplitl [HI HR]; · unfold records; isplitl [HI] <;> iassumption
  isplitl [Hat]; · iexact Hat
  iapply (rights_around (F := F)); iexact Htok

theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄)
    ⊢ |={Set.univ}=> bigSep Finset.univ (G' m ρ) :=
  ((bigSep_mono fun c _ => share_cells m ρ c).trans (bigSep_fupd _ _)).trans (BI.fupd_mono (deal m ρ))

/-! ## The waits the launch allows -/

omit [FloatOps F] in
theorem creds_intro (c : Dev nD) : (Pipeline.launchCred O₀ c : sProp 𝕄) ⊢ creds c := by
  have h : O₀ = fun d => (∑ k : Item, (fun k d => tallyAt (recvCell (peer d) k) () (amt k) : Item → Dev nD → CellTallies nD τ sig Unit) k d)
      + tallyAt (barCell (peer d)) () 1 := by
    funext d; unfold O₀ debt
    exact congrArg (· + _) (Finset.sum_congr rfl fun k _ => if_pos (Nat.zero_le _))
  rw [h, Pipeline.launchCred_add, Pipeline.launchCred_sum]
  unfold creds
  iintro ⟨HR, HB⟩
  isplitl [HB]
  · iapply (Pipeline.launchCred_tallyAt (.reg barS) peer peer peer_peer peer_peer () 1 c); iexact HB
  · iapply (show (bigSep Finset.univ fun k : Item => Pipeline.launchCred (fun d => tallyAt (recvCell (peer d) k) () (amt k)) c)
        ⊢ (bigSep Finset.univ fun k : Item => cred (tallyAt (recvCell c k) () (amt k)) : sProp 𝕄) from
      bigSep_mono fun k _ => Pipeline.launchCred_tallyAt (osem (.inr k)) peer peer peer_peer peer_peer () (amt k) c)
    iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  imodintro
  isplitl
  · unfold start G'
    isplitl [HG]; · iexact HG
    isplitl [Hcr]; · iapply (creds_intro c); iexact Hcr
    iexact Hlev
  · iempintro

/-! ## The exchange buffers, whole and in slots -/

omit [FloatOps F] in
theorem slots_split (c : Dev nD) (b : Ref sig .tc) (M : Memref sig .tc .vmem S8x256x512 .bf16) (f : M.view.ty.Contents (Elt F)) :
    (M.view.loc (c : Thread nD τ) ↦[M.view.set]{fullShare} f) ⊢ (bigSep Finset.univ fun i => slotAny M c i : sProp 𝕄) := by
  rw [pointsTo_rects (c : Thread nD τ) M fullShare slotR (fun _ _ => rfl) slotR_disjoint slotR_cover f]
  refine bigSep_mono fun i _ => ?_
  unfold slotAny slotIs
  refine (show _ ⊢ (_ : sProp 𝕄) from ?_)
  iintro H; iexists _; iexact H

/-- One array out of eight slots. -/
def gather (Y : Fin 8 → S1x256x512.Idx → Elt F .bf16) : S8x256x512.Idx → Elt F .bf16 := fun y =>
  Y (y 0) fun
    | 0 => ⟨0, Nat.one_pos⟩
    | 1 => y 1
    | 2 => y 2

omit [FloatOps F] in
theorem gather_slot (Y : Fin 8 → S1x256x512.Idx → Elt F .bf16) (i : Fin 8) : (fun j => gather Y ((slotR i).emb j)) = Y i := by
  funext j
  have h0 : (j 0).val = 0 := by have : (j 0).val < 1 := (j 0).isLt; omega
  have hi : ((slotR i).emb j) 0 = i := Fin.ext (show i.val + 1 * (j 0).val = i.val by omega)
  unfold gather
  rw [hi]
  refine congrArg (Y i) (funext fun a => Fin.ext ?_)
  fin_cases a
  · exact h0.symm
  · show 0 + 1 * (j 1).val = (j 1).val; omega
  · show 0 + 1 * (j 2).val = (j 2).val; omega

instance elt_nonempty (e : EltTy) : Nonempty (Elt F e) := by
  cases e <;> first | exact ⟨FloatOps.ofBits _ 0⟩ | exact ⟨(0 : BitVec _)⟩

theorem slots_join (c : Dev nD) (M : Memref sig .tc .vmem S8x256x512 .bf16) :
    (bigSep Finset.univ fun i => slotAny M c i : sProp 𝕄) ⊢ iprop(∃ X, owns (c : Thread nD τ) M fullShare X) := by
  unfold slotAny
  have hne : ∀ _ : Fin 8, Nonempty (S1x256x512.Idx → Elt F .bf16) := fun _ => ⟨fun _ => Classical.choice (elt_nonempty .bf16)⟩
  iintro H
  ihave H' := (@BI.bigSep_exists_pi _ _ _ _ (fun _ : Fin 8 => S1x256x512.Idx → Elt F .bf16) hne Finset.univ
    (fun (i : Fin 8) (X : S1x256x512.Idx → Elt F .bf16) => (slotIs M c i X : sProp 𝕄))) $$ H
  icases H' with ⟨%Y, H⟩
  iexists (gather Y)
  iapply (owns_of_rects (c : Thread nD τ) M fullShare slotR (fun _ _ => rfl) slotR_disjoint slotR_cover (gather Y))
  iapply (Entails.of_eq (bigSep_congr (s := Finset.univ) fun (i : Fin 8) _ =>
    (show (slotIs M c i (Y i) : sProp 𝕄) = owns (c : Thread nD τ) (slotM M i) fullShare (fun j => gather Y ((slotR i).emb j)) from
      congrArg (fun Z => (slotIs M c i Z : sProp 𝕄)) (gather_slot Y i).symm)))
  iexact H

theorem whole_slots (c : Dev nD) (b : Ref sig .tc) (M : Memref sig .tc .vmem S8x256x512 .bf16)
    (h : (iprop(∃ X, owns (c : Thread nD τ) M fullShare X) : sProp 𝕄)
      = iprop(∃ f : Buf (Elt F) ((c : Thread nD τ).loc b), ((c : Thread nD τ).loc b) ↦{fullShare} f)) :
    (iprop(∃ f : Buf (Elt F) ((c : Thread nD τ).loc b), ((c : Thread nD τ).loc b) ↦{fullShare} f) : sProp 𝕄)
      = bigSep Finset.univ fun i => slotAny M c i := by
  rw [← h]
  refine BI.Entails.antisymm (show _ ⊢ (_ : sProp 𝕄) from ?_) (slots_join c M)
  iintro ⟨%X, H⟩
  ihave H' := (owns_rects (c : Thread nD τ) M fullShare slotR (fun _ _ => rfl) slotR_disjoint slotR_cover X) $$ H
  iapply (show (bigSep Finset.univ fun i => owns (c : Thread nD τ) (slotM M i) fullShare (fun j => X ((slotR i).emb j)))
      ⊢ (bigSep Finset.univ fun i => slotAny M c i : sProp 𝕄) from
    bigSep_mono fun i _ => (show slotIs M c i (fun j => X ((slotR i).emb j)) ⊢ (slotAny M c i : sProp 𝕄) from slotIs_any M c i _))
  iexact H'

omit [FloatOps F] in
/-- A whole buffer holding anything, said both ways. -/
theorem whole_any (c : Dev nD) (b : Ref sig .tc) :
    (iprop(∃ X, owns (Ix := Unit) (Name := ℕ) (U := UU) (Lvl := ℕ) (c : Thread nD τ) (Memref.whole b) fullShare X) : sProp 𝕄)
      = iprop(∃ f : Buf (Elt F) ((c : Thread nD τ).loc b), ((c : Thread nD τ).loc b) ↦{fullShare} f) := by
  simp only [owns_whole_eq]
  refine BI.Entails.antisymm (show _ ⊢ (_ : sProp 𝕄) from ?_) (show _ ⊢ (_ : sProp 𝕄) from ?_)
  · iintro ⟨%X, %f, -, H⟩; iexists f; iexact H
  · iintro ⟨%f, H⟩; iexists f; iexists f; isplitr; · ipureintro; rfl
    iexact H

/-- The launch's scratch buffers are the exchange's. -/
theorem scratch_eq (c : Dev nD) :
    (Pipeline.scopedRest (Ix := Unit) (Name := ℕ) (U := UU) (Lvl := ℕ) (Val := Elt F) cfg0.spec c : sProp 𝕄) = scratch c := by
  rw [show (Pipeline.scopedRest (Ix := Unit) (Name := ℕ) (U := UU) (Lvl := ℕ) (Val := Elt F) cfg0.spec c : sProp 𝕄) = _ from scopedRest0_eq c,
    whole_slots c cc0_scratch0 sM (whole_any c cc0_scratch0), whole_slots c cc0_scratch1 rM (whole_any c cc0_scratch1),
    ← whole_any c cc0_scratch2, ← whole_any c cc0_scratch3]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, unscopedSems0_eq]
  exact BI.Entails.refl _

/-! ## The run -/

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact .inl rfl
      · exact .inr rfl)

/-- The contents of window `w`'s array at the end. -/
def finalA (c : Dev nD) (w : Fin cfg0.W) : Buf (Elt F) ((cfg0.win w).arr.view.loc (c : Thread nD τ)) := (dats m ρ 0 c).arrAt w cfg0.N

def Ends (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- Every fair execution of the mesh ends, with every counter at zero and every array at its final contents. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _)
    (harr := arr_whole0) (hstage := stage_whole0) (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.Exchange

end
-- ==== Proof.Value.lean ====
/- The value over the real numbers: with finite arguments both programs compute `exp (x·W) / (row sum of exp (x·W))`. -/
module

public import proofs.«01_k».proof.Proof.Run
public import proofs.«01_k».proof.Proof.Gen.ReferenceIdeal.Run
public import Idealize.ShloMosaic.Lib.Pointwise
public import Idealize.ShloMosaic.Lib.LayoutAt

@[expose] public section

set_option maxRecDepth 16384

noncomputable section

namespace Cert.Exchange

open Idealize.ShloMosaic Idealize.ShloMosaic.TcCoe

/-! ## Real arithmetic -/

/-- A sum of real numbers, taken among the extended reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The largest of `⊥` and some real numbers, at least one, is a real number. -/
theorem fold_max_real {ι : Type} (s : Finset ι) (hs : s.Nonempty) (f : ι → ℝ) :
    ∃ M : ℝ, s.fold max (⊥ : EReal) (fun k => (f k : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

theorem div_real (a : ℝ) {b : ℝ} (hb : b ≠ 0) : Ideal.div (a : EReal) (b : EReal) = ((a / b : ℝ) : EReal) := by
  rw [Ideal.div_coe hb, ← EReal.coe_mul, mul_one_div]

theorem negInf_eq : Ideal.ofBits .f32 0xFF800000#32 = (⊥ : EReal) := by
  simp [Ideal.ofBits, Ideal.ieee]
theorem posInf_eq : Ideal.ofBits .f32 0x7F800000#32 = (⊤ : EReal) := by
  simp [Ideal.ofBits, Ideal.ieee]

/-- An extended real whose absolute value is below `⊤` is a real number. -/
theorem real_of_abs_lt {a : EReal} (h : max a (-a) < ⊤) : a = (a.toReal : EReal) := by
  refine (EReal.coe_toReal ?_ ?_).symm
  · rintro rfl; simp at h
  · rintro rfl; simp at h

/-- Column `l` of block `j`, of sixteen blocks of 512. -/
def colOf (j : Fin 16) (l : Fin 512) : Fin 8192 := ⟨512 * j.val + l.val, by omega⟩

/-- A sum over all columns, block by block. -/
theorem sum_blocks (f : Fin 8192 → ℝ) : ∑ j, f j = ∑ b : Fin 16, ∑ l : Fin 512, f (colOf b l) := by
  rw [← Fintype.sum_prod_type' (fun b l => f (colOf b l))]
  refine (Fintype.sum_equiv (finProdFinEquiv (m := 16) (n := 512)) _ _ fun p => congrArg f (Fin.ext ?_)).symm
  show 512 * p.1.val + p.2.val = p.2.val + 512 * p.1.val
  omega

/-- A device's eight blocks and its partner's are the sixteen. -/
def blocksEquiv (c : Dev Cert.KernelIdeal.nD) : Fin 8 ⊕ Fin 8 ≃ Fin 16 where
  toFun := Sum.elim (own c) (own (peer c))
  invFun j := if j.val / 8 = c.val / 16 then .inl (chunkNo j) else .inr (chunkNo j)
  left_inv := by revert c; decide
  right_inv := by revert c; decide

theorem sum_own_peer (c : Dev Cert.KernelIdeal.nD) (f : Fin 16 → ℝ) :
    ∑ b, f b = (∑ i, f (own c i)) + ∑ i, f (own (peer c) i) := by
  rw [← Fintype.sum_equiv (blocksEquiv c) (fun p => f (blocksEquiv c p)) f (fun _ => rfl), Fintype.sum_sum_type]
  rfl

/-! ## What both programs compute -/

-- real arguments: the shared left factor and the whole right factor
variable (X : Fin 256 → Fin 512 → ℝ) (Wt : Fin 512 → Fin 8192 → ℝ)

/-- The logit at row `r`, column `j`, -/
def logit (r : Fin 256) (j : Fin 8192) : ℝ := ∑ k, X r k * Wt k j
/-- its exponential, -/
def weight (r : Fin 256) (j : Fin 8192) : ℝ := Real.exp (logit X Wt r j)
/-- and the softmax. -/
def soft (r : Fin 256) (j : Fin 8192) : ℝ := weight X Wt r j / ∑ j', weight X Wt r j'

theorem weight_pos (r : Fin 256) (j : Fin 8192) : 0 < weight X Wt r j := Real.exp_pos _
theorem weights_pos (r : Fin 256) : 0 < ∑ j', weight X Wt r j' :=
  Finset.sum_pos (fun j _ => weight_pos X Wt r j) ⟨0, Finset.mem_univ _⟩

/-- Lowering every logit of a row by the same number leaves the softmax as it is. -/
theorem soft_shift (r : Fin 256) (j : Fin 8192) (M : ℝ) :
    Real.exp (logit X Wt r j - M) / ∑ j', Real.exp (logit X Wt r j' - M) = soft X Wt r j := by
  have h : ∀ j', Real.exp (logit X Wt r j' - M) = weight X Wt r j' * (Real.exp M)⁻¹ := fun j' => by
    rw [Real.exp_sub, div_eq_mul_inv]; rfl
  simp only [h]
  rw [← Finset.sum_mul, mul_div_mul_right _ _ (inv_ne_zero (Real.exp_ne_zero M))]
  rfl

/-! ## The reference -/

section Reference
open Cert.ReferenceIdeal Cert.ReferenceIdeal.Gen

def refLogits (x : FVec Ideal S256x512 .f32) (w : FVec Ideal S512x8192 .f32) : FVec Ideal S256x8192 .f32 :=
  Host.dotGeneral dot_S256x512_S512x8192_S256x8192_1_0_0_1_n_n none x w
def refTop (t : FVec Ideal S256x8192 .f32) : FVec Ideal S256 .f32 :=
  Host.reduce FloatOps.maximumf t (constant S_ .f32 0xFF800000#32) reducesTo_S256x8192_S256_d1 h_S_
def refExp (t : FVec Ideal S256x8192 .f32) : FVec Ideal S256x8192 .f32 :=
  Host.exp (subf t (broadcastInDim S256x8192 ![0, 1] bcast_S256x1_S256x8192_0_1 (broadcastInDim S256x1 ![0] bcast_S256_S256x1_0 (refTop t))))
def refSoft (e : FVec Ideal S256x8192 .f32) : FVec Ideal S256x8192 .f32 :=
  Host.divf e (broadcastInDim S256x8192 ![0, 1] bcast_S256x1_S256x8192_0_1 (broadcastInDim S256x1 ![0] bcast_S256_S256x1_0
    (Host.reduceAdd e (constant S_ .f32 0x00000000#32) reducesTo_S256x8192_S256_d1 h_S_)))

/-- What the reference's result ends as. -/
def refOut (x : FVec Ideal S256x512 .f32) (w : FVec Ideal S512x8192 .f32) : FVec Ideal S256x8192 .f32 :=
  refSoft (refExp (refLogits x w))

theorem ref_run (m : (ℓ : Loc nD τ sig) → Buf (Elt Ideal) ℓ) (ρ : Dev nD → PrngReg) :
    θ_run defs (onTc main) ⟨m, fun _ => 0, ρ⟩ (fun r => ∀ c : Dev nD,
      r.2.mem ((c : Thread nD τ).loc main_v9) = refOut (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)) :=
  Value.run (F := Ideal) m ρ

theorem refLogits_at (x : FVec Ideal S256x512 .f32) (w : FVec Ideal S512x8192 .f32) (r : Fin 256) (j : Fin 8192) :
    refLogits x w (ix2 r j) = ∑ k : Fin 512, (x (ix2 r k) * w (ix2 k j) : EReal) := by
  pointwise [refLogits]
theorem refTop_at (t : FVec Ideal S256x8192 .f32) (r : Fin 256) :
    refTop t (ix1 r) = Finset.fold max (Ideal.ofBits .f32 0xFF800000#32) (fun k : Fin 8192 => t (ix2 r k)) Finset.univ := by
  pointwise [refTop]
theorem refExp_at (t : FVec Ideal S256x8192 .f32) (r : Fin 256) (j : Fin 8192) :
    refExp t (ix2 r j) = Ideal.exp (t (ix2 r j) - refTop t (ix1 r)) := by
  pointwise [refExp]
theorem refSoft_at (e : FVec Ideal S256x8192 .f32) (r : Fin 256) (j : Fin 8192) :
    refSoft e (ix2 r j) = Ideal.div (e (ix2 r j)) (∑ k : Fin 8192, (e (ix2 r k) : EReal)) := by
  pointwise [refSoft]

theorem refOut_at (x : FVec Ideal S256x512 .f32) (w : FVec Ideal S512x8192 .f32)
    (hx : ∀ r k, x (ix2 r k) = (X r k : EReal)) (hw : ∀ k j, w (ix2 k j) = (Wt k j : EReal)) (r : Fin 256) (j : Fin 8192) :
    refOut x w (ix2 r j) = (soft X Wt r j : EReal) := by
  have hl : ∀ j, refLogits x w (ix2 r j) = (logit X Wt r j : EReal) := fun j => by
    rw [refLogits_at, logit, ← coe_sum]
    exact Finset.sum_congr rfl fun k _ => by rw [hx, hw, EReal.coe_mul]
  obtain ⟨M, hM⟩ := fold_max_real (Finset.univ : Finset (Fin 8192)) ⟨0, Finset.mem_univ _⟩ (logit X Wt r)
  have ht : refTop (refLogits x w) (ix1 r) = (M : EReal) := by
    rw [refTop_at, negInf_eq, ← hM]
    exact congrArg (fun f => Finset.fold max (⊥ : EReal) f Finset.univ) (funext hl)
  have he : ∀ j, refExp (refLogits x w) (ix2 r j) = (Real.exp (logit X Wt r j - M) : EReal) := fun j => by
    rw [refExp_at, hl, ht, ← Ideal.exp_coe, EReal.coe_sub]
  have hs : (∑ k : Fin 8192, (refExp (refLogits x w) (ix2 r k) : EReal)) = ((∑ k, Real.exp (logit X Wt r k - M) : ℝ) : EReal) := by
    rw [← coe_sum]
    exact Finset.sum_congr rfl fun k _ => he k
  have hpos : 0 < ∑ k, Real.exp (logit X Wt r k - M) :=
    Finset.sum_pos (fun k _ => Real.exp_pos _) ⟨0, Finset.mem_univ _⟩
  rw [refOut, refSoft_at, hs, he, div_real _ hpos.ne', soft_shift]

end Reference

/-! ## The kernel -/

section Kernel
open Cert.KernelIdeal Cert.KernelIdeal.Gen

theorem pay1_at (x : FVec Ideal S256x512 .f32) (w : FVec Ideal S512x512 .f32) (r : Fin 256) (l : Fin 512) :
    k0_pay1 (F := Ideal) x w (ix2 r l) = Ideal.exp (∑ k : Fin 512, (x (ix2 r k) * w (ix2 k l) : EReal)) := by
  pointwise [k0_pay1]
theorem pay28_at (e : FVec Ideal S256x512 .f32) (r : Fin 256) (l : Fin 512) :
    k0_pay28 (F := Ideal) (k0_pay3 (F := Ideal) e) (ix2 r l) = e (ix2 r l) := by
  pointwise [k0_pay28, k0_pay3]
theorem pay4_eq (x : FVec Ideal S256x512 .f32) (w : FVec Ideal S512x512 .f32) :
    k0_pay4 (F := Ideal) x w = k0_pay1 (F := Ideal) x w := rfl
theorem pay5_at (s : FVec Ideal S256x1 .f32) (x : FVec Ideal S256x512 .f32) (w : FVec Ideal S512x512 .f32) (r : Fin 256) :
    k0_pay5 (F := Ideal) s x w (ix2 r 0) = (s (ix2 r 0) + ∑ l : Fin 512, (k0_pay1 (F := Ideal) x w (ix2 r l) : EReal) : EReal) := by
  rw [← pay4_eq]
  pointwise [k0_pay5]
theorem pay27_at (s : FVec Ideal S256x1 .f32) (r : Fin 256) : k0_pay27 (F := Ideal) s (ix2 r 0) = s (ix2 r 0) := by
  pointwise [k0_pay27]
theorem pay36_at (s : FVec Ideal S256x1 .f32) (u : FVec Ideal S256x8192 .f32) (t : FVec Ideal S256x1 .f32) (r : Fin 256) (j : Fin 8192) :
    k0_pay36 (F := Ideal) s u t (ix2 r j) = (u (ix2 r j) * Ideal.div 1 (s (ix2 r 0) + t (ix2 r 0)) : EReal) := by
  pointwise [k0_pay36]

variable (m : (ℓ : Loc nD τ sig) → Buf (Elt Ideal) ℓ) (ρ : Dev nD → PrngReg)

theorem xstg_eq (c : Dev nD) : xstg m ρ c = m ((c : Thread nD τ).loc main_arg0) := by
  unfold xstg
  exact Memref.read_access_unit_zero (Elt Ideal) main_arg0 (by funext a; fin_cases a <;> rfl) _ _
theorem wstg_eq (c : Dev nD) : wstg m ρ c = m ((c : Thread nD τ).loc main_arg1) := by
  unfold wstg
  exact Memref.read_access_unit_zero (Elt Ideal) main_arg1 (by funext a; fin_cases a <;> rfl) _ _
theorem wcolR_emb (i : Fin 8) (k l : Fin 512) : (wcolR i).emb (ix2 k l) = ix2 k ⟨512 * i.val + l.val, by omega⟩ := by
  funext a
  refine Fin.ext ?_
  fin_cases a
  · show 0 + 1 * k.val = k.val; omega
  · show 512 * i.val + 1 * l.val = 512 * i.val + l.val; omega
theorem wcol_at (c : Dev nD) (i : Fin 8) (k l : Fin 512) :
    wcol m ρ c i (ix2 k l) = (m ((c : Thread nD τ).loc main_arg1) : FVec Ideal S512x4096 .f32) (ix2 k ⟨512 * i.val + l.val, by omega⟩) := by
  rw [← wcolR_emb, ← wstg_eq m ρ]
  rfl

/-- The kernel's arguments are the real ones: `x` on every device, and of `W` the half a device holds. -/
structure Holds : Prop where
  x : ∀ (c : Dev nD) r k, (m ((c : Thread nD τ).loc main_arg0) : FVec Ideal S256x512 .f32) (ix2 r k) = (X r k : EReal)
  w : ∀ (c : Dev nD) (i : Fin 8) (k l : Fin 512),
    (m ((c : Thread nD τ).loc main_arg1) : FVec Ideal S512x4096 .f32) (ix2 k ⟨512 * i.val + l.val, by omega⟩)
      = (Wt k (colOf (own c i) l) : EReal)

variable {X Wt m} (h : Holds X Wt m)
include h

theorem expE_at (c : Dev nD) (i : Fin 8) (r : Fin 256) (l : Fin 512) :
    expE m ρ c i (ix2 r l) = (weight X Wt r (colOf (own c i) l) : EReal) := by
  rw [expE, pay1_at, weight, ← Ideal.exp_coe, logit, ← coe_sum]
  refine congrArg Ideal.exp (Finset.sum_congr rfl fun k _ => ?_)
  rw [xstg_eq, wcol_at, h.x, h.w, EReal.coe_mul]

theorem blockE_at (c : Dev nD) (j : Fin 16) (r : Fin 256) (l : Fin 512) :
    blockE m ρ c j (ix2 r l) = (weight X Wt r (colOf j l) : EReal) := by
  rcases own_cases c j with hj | hj <;> rw [hj]
  · rw [blockE_own, expE_at ρ h]
  · rw [blockE_peer, backE, sentB, pay28_at, expE_at ρ h]

theorem unscaled_at (c : Dev nD) (r : Fin 256) (j : Fin 8192) : unscaled m ρ c (ix2 r j) = (weight X Wt r j : EReal) := by
  have hin : inBlock (ix2 r j) = ix2 r ⟨j.val % 512, Nat.mod_lt _ (by decide)⟩ := by
    funext a; fin_cases a <;> rfl
  rw [unscaled, hin, blockE_at ρ h]
  refine congrArg (fun j => (weight X Wt r j : EReal)) (Fin.ext ?_)
  show 512 * (j.val / 512) + j.val % 512 = j.val
  omega

theorem sums_at (c : Dev nD) (r : Fin 256) (n : ℕ) : sums m ρ c n (ix2 r 0)
    = ((∑ i ∈ Finset.range n, ∑ l : Fin 512, weight X Wt r (colOf (own c (Fin.ofNat 8 i)) l) : ℝ) : EReal) := by
  induction n with
  | zero =>
    rw [Finset.sum_range_zero, EReal.coe_zero]
    pointwise [sums]
  | succ n ih =>
    rw [sums, pay5_at, ih, Finset.sum_range_succ, EReal.coe_add, ← coe_sum]
    exact congrArg _ (Finset.sum_congr rfl fun l _ => expE_at ρ h c (Fin.ofNat 8 n) r l)

/-- A device's row sum is its eight blocks' weights. -/
theorem half_at (c : Dev nD) (r : Fin 256) :
    sums m ρ c 8 (ix2 r 0) = ((∑ i : Fin 8, ∑ l : Fin 512, weight X Wt r (colOf (own c i) l) : ℝ) : EReal) := by
  rw [sums_at ρ h, Finset.sum_range]
  refine congrArg _ (Finset.sum_congr rfl fun i _ => ?_)
  rw [show Fin.ofNat 8 i.val = i from Fin.ext (Nat.mod_eq_of_lt i.isLt)]

theorem outAt_at (c : Dev nD) (r : Fin 256) (j : Fin 8192) :
    (outAt m ρ c : FVec Ideal S256x8192 .f32) (ix2 r j) = (soft X Wt r j : EReal) := by
  rw [outAt, pay36_at, unscaled_at ρ h, total, pay27_at, half_at ρ h, half_at ρ h, ← EReal.coe_add,
    ← sum_own_peer c (fun b => ∑ l, weight X Wt r (colOf b l)), ← sum_blocks (weight X Wt r),
    Ideal.div_coe (weights_pos X Wt r).ne', one_mul, ← EReal.coe_mul, mul_one_div, soft]

end Kernel

end Cert.Exchange

end
-- ==== Proof.Claims.lean ====
/- Each claim, from the runs and the value. -/
module

public import proofs.«01_k».proof.Defs
public import proofs.«01_k».proof.Proof.Gen.Kernel
public import proofs.«01_k».proof.Proof.Value

@[expose] public section

set_option maxRecDepth 16384

noncomputable section

namespace Cert.Exchange

open Idealize.ShloMosaic Idealize.ShloMosaic.TcCoe

/-! ## The arguments' finiteness, stated -/

theorem finiteKernelFacts : Cert.Pre_finite_KernelIdeal.Facts := ⟨⟨by decide, by decide⟩, ⟨by decide, by decide⟩⟩
theorem finiteReferenceFacts : Cert.Pre_finite_ReferenceIdeal.Facts := ⟨⟨by decide, by decide⟩, ⟨by decide, by decide⟩⟩
attribute [local instance] finiteKernelFacts finiteReferenceFacts

/-- An entry the check calls finite is a real number. -/
theorem real_of_check {a : EReal} (h : Ideal.cmp .olt (max a (-a)) (Ideal.ofBits .f32 0x7F800000#32) = 1#1) :
    a = (a.toReal : EReal) := by
  rw [posInf_eq] at h
  refine real_of_abs_lt ?_
  by_contra hn
  simp [Ideal.cmp, hn] at h

section Kernel
open Cert.KernelIdeal Cert.KernelIdeal.Gen

section Frames
variable {F : FTy → Type} [FloatOps F] (m : (ℓ : Loc nD τ sig) → Buf (Elt F) ℓ) (ρ : Dev nD → PrngReg)

/-- The result's one block is its whole array. -/
theorem finalA_o (c : Dev nD) : finalA m ρ c (2 : Fin 3) = outAt m ρ c := by
  have hz : (fun a => win0_2.index (0 : Fin 1) a * main_v1.ty.shape.size a) = fun _ => 0 := funext fun a => by fin_cases a <;> decide
  refine (Memref.read_access_unit_zero (Elt F) main_v1 hz (fun a => by fin_cases a <;> decide) _).symm.trans ?_
  show (win0_2.blk (0 : Fin 1)).view.read (Elt F) (finalA m ρ c (2 : Fin 3)) = outAt m ρ c
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The kernel's run leaves its arguments as they were and every counter at zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

/-- And its result at `outAt`. -/
theorem run_value : θ_run defs (onTc (τ := τ) (main (F := F))) ⟨m, fun _ => 0, ρ⟩ (fun r => ∀ c : Dev nD,
    r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h.1 c (2 : Fin 3)).trans (finalA_o m ρ c), (h.1 c (0 : Fin 3)).trans (finalA_x m ρ c),
    (h.1 c (1 : Fin 3)).trans (finalA_w m ρ c)⟩) (run_main m ρ)

end Frames

/-! ## The kernel's argument blocks are real when the whole arrays are theirs -/

/-- Device `c`'s half of `W`, entry by entry. -/
theorem half_entry (w : FVec Ideal ⟨2, ![512, 8192]⟩ .f32) (h) (c : Dev nD) (k : Fin 512) (l : Fin 4096) :
    (Layout.blockN ⟨2, ![512, 4096]⟩ ⟨2, ![512, 8192]⟩ (Layout.meshBlock [2, 4, 4] ![[], [0]] c) w h : FVec Ideal ⟨2, ![512, 4096]⟩ .f32) (ix2 k l)
      = w (ix2 k ⟨4096 * (c.val / 16) + l.val, by have : c.val < 32 := c.isLt; omega⟩) := by
  have hb : ((Layout.meshBlock [2, 4, 4] ![[], [0]] c : (b : Fin 2) → _) 1).val = c.val / 16 := by revert c; decide
  have hb0 : ((Layout.meshBlock [2, 4, 4] ![[], [0]] c : (b : Fin 2) → _) 0).val = 0 := by revert c; decide
  shard_ext

end Kernel

/-! ## The claims -/

/-- The two programs have the same text, so the same bodies, -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
/-- and the same table around them. -/
theorem defs_eq : Cert.Kernel.defs (F := Bits) = Cert.KernelIdeal.defs (F := Bits) :=
  congrArg (Pipeline.defs (Cert.KernelIdeal.pcfgs (F := Bits))) bodies_eq

/-- One run serves both programs: over bit patterns it is the kernel's. -/
theorem frame_kernel : Cert.quiescent_Kernel := fun m ρ _ => by
  rw [defs_eq]
  exact (θ_run Cert.KernelIdeal.defs _ _).mono (fun _ h => h) (run_frame (F := Bits) m ρ)
theorem frame_kernelIdeal : Cert.quiescent_KernelIdeal := fun m ρ _ => run_frame (F := Ideal) m ρ
theorem frame_kernelIdeal_finite : Cert.quiescent_KernelIdeal_pre_finite_KernelIdeal := fun m ρ _ => run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩) (ref_run m ρ)
theorem frame_reference_finite : Cert.quiescent_ReferenceIdeal_pre_finite_ReferenceIdeal := fun m ρ _ => frame_reference m ρ trivial

/-- With finite arguments the kernel's result, on every device, is the reference's. -/
theorem algebraic : Cert.algebraic_KernelIdeal_ReferenceIdeal_pre_finite_KernelIdeal := by
  intro m ρ m' ρ' hfin hagree
  let x : FVec Ideal ⟨2, ![256, 512]⟩ .f32 := m' (((0 : Dev Cert.ReferenceIdeal.nD).tc : Thread Cert.ReferenceIdeal.nD Cert.ReferenceIdeal.τ).loc Cert.ReferenceIdeal.main_arg0)
  let w : FVec Ideal ⟨2, ![512, 8192]⟩ .f32 := m' (((0 : Dev Cert.ReferenceIdeal.nD).tc : Thread Cert.ReferenceIdeal.nD Cert.ReferenceIdeal.τ).loc Cert.ReferenceIdeal.main_arg1)
  have hblock : ∀ (c : Dev Cert.KernelIdeal.nD) (k : Fin 512) (l : Fin 4096),
      (m ((c.tc : Thread Cert.KernelIdeal.nD Cert.KernelIdeal.τ).loc Cert.KernelIdeal.main_arg1) : FVec Ideal ⟨2, ![512, 4096]⟩ .f32) (ix2 k l)
        = w (ix2 k ⟨4096 * (c.val / 16) + l.val, by have : c.val < 32 := c.isLt; omega⟩) := fun c k l => by
    rw [(hagree c).2]; exact half_entry w _ c k l
  -- every entry is real: of `x` as any device holds it, of `W` as the device that holds its half does
  have hx : ∀ r k, x (ix2 r k) = ((x (ix2 r k)).toReal : EReal) := fun r k => by
    have h := congrFun (hfin 0).1 (ix2 r k)
    rw [(hagree 0).1] at h
    exact real_of_check h
  have hw : ∀ k j, w (ix2 k j) = ((w (ix2 k j)).toReal : EReal) := fun k j => by
    have hd : 16 * (j.val / 4096) < 32 := by omega
    have h := real_of_check (congrFun (hfin ⟨16 * (j.val / 4096), hd⟩).2 (ix2 k ⟨j.val % 4096, Nat.mod_lt _ (by decide)⟩))
    rw [hblock] at h
    have hj : (⟨4096 * (16 * (j.val / 4096) / 16) + j.val % 4096, by omega⟩ : Fin 8192) = j := Fin.ext (by simp only []; omega)
    rwa [hj] at h
  have H : Holds (fun r k => (x (ix2 r k)).toReal) (fun k j => (w (ix2 k j)).toReal) m :=
    ⟨fun c r k => by rw [(hagree c).1]; exact hx r k, fun c i k l => by
      rw [hblock, ← hw]
      refine congrArg (fun j => w (ix2 k j)) (Fin.ext ?_)
      have := own_val c i
      show 4096 * (c.val / 16) + (512 * i.val + l.val) = 512 * (own c i).val + l.val
      omega⟩
  have hout : ∀ c, outAt m ρ c = refOut x w := fun c => by
    funext y
    obtain ⟨r, j, rfl⟩ : ∃ (r : Fin 256) (j : Fin 8192), y = ix2 r j := ⟨y 0, y 1, by funext a; fin_cases a <;> rfl⟩
    exact (outAt_at ρ H c r j).trans (refOut_at _ _ x w hx hw r j).symm
  refine ⟨refOut x w, ?_, ?_⟩
  · exact (θ_run Cert.KernelIdeal.defs _ _).mono (fun _ h c => ⟨(h c).1.trans (hout c), (h c).2⟩) (run_value (F := Ideal) m ρ)
  · exact (θ_run Cert.ReferenceIdeal.defs _ _).mono (fun _ h => h 0) (ref_run m' ρ')

end Cert.Exchange

end
-- ==== Proof.lean ====
/- The certificate: every claim, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Cert.Exchange

theorem claim : Cert.Claim :=
  ⟨Cert.Kernel.Gen.facts, Cert.KernelIdeal.Gen.facts, Cert.ReferenceIdeal.Gen.facts, finiteKernelFacts, finiteReferenceFacts,
    frame_kernel, frame_kernelIdeal, frame_kernelIdeal_finite, frame_reference, frame_reference_finite, trivial, algebraic⟩

end Cert.Proof

end
